-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x4096 : Shape := ⟨2, ![8192, 4096]⟩
abbrev S4096x64 : Shape := ⟨2, ![4096, 64]⟩
abbrev S8192x64x128 : Shape := ⟨3, ![8192, 64, 128]⟩
abbrev S16x1x512 : Shape := ⟨3, ![16, 1, 512]⟩
abbrev S1x1 : Shape := ⟨2, ![1, 1]⟩
abbrev S_ : Shape := ⟨0, ![]⟩
abbrev S8192x1x1 : Shape := ⟨3, ![8192, 1, 1]⟩
abbrev S64 : Shape := ⟨1, ![64]⟩
abbrev S1x64x1 : Shape := ⟨3, ![1, 64, 1]⟩
abbrev S8192x64x1 : Shape := ⟨3, ![8192, 64, 1]⟩
abbrev S128 : Shape := ⟨1, ![128]⟩
abbrev S1x1x128 : Shape := ⟨3, ![1, 1, 128]⟩
abbrev S8192x1x128 : Shape := ⟨3, ![8192, 1, 128]⟩
abbrev S512x4096 : Shape := ⟨2, ![512, 4096]⟩
abbrev S512x64x128 : Shape := ⟨3, ![512, 64, 128]⟩
abbrev S1x1x512 : Shape := ⟨3, ![1, 1, 512]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S512x512 : Shape := ⟨2, ![512, 512]⟩
abbrev S1x64x128 : Shape := ⟨3, ![1, 64, 128]⟩
abbrev S512x1x1 : Shape := ⟨3, ![512, 1, 1]⟩
abbrev S1x1x64 : Shape := ⟨3, ![1, 1, 64]⟩
abbrev S1 : Shape := ⟨1, ![1]⟩
abbrev S1x1x1 : Shape := ⟨3, ![1, 1, 1]⟩

abbrev nBuf : Space → Nat
  | .hbm => 22
  | .vmem => 11
  | .smem => 1
  | _ => 0

abbrev bufTy : (tb : Table) → Fin (tcTables nBuf tb) → BufTy
  | .hbm, ⟨0, _⟩ => ⟨S8192x4096, .f32⟩
  | .hbm, ⟨1, _⟩ => ⟨S4096x64, .f32⟩
  | .hbm, ⟨2, _⟩ => ⟨S8192x64x128, .f32⟩
  | .hbm, ⟨3, _⟩ => ⟨S16x1x512, .i32⟩
  | .hbm, ⟨4, _⟩ => ⟨S16x1x512, .i32⟩
  | .hbm, ⟨5, _⟩ => ⟨S1x1, .f32⟩
  | .hbm, ⟨6, _⟩ => ⟨S_, .f32⟩
  | .hbm, ⟨7, _⟩ => ⟨S8192x1x1, .i32⟩
  | .hbm, ⟨8, _⟩ => ⟨S8192x1x1, .i32⟩
  | .hbm, ⟨9, _⟩ => ⟨S64, .i32⟩
  | .hbm, ⟨10, _⟩ => ⟨S1x64x1, .i32⟩
  | .hbm, ⟨11, _⟩ => ⟨S8192x64x1, .i32⟩
  | .hbm, ⟨12, _⟩ => ⟨S8192x64x1, .i32⟩
  | .hbm, ⟨13, _⟩ => ⟨S8192x64x1, .i1⟩
  | .hbm, ⟨14, _⟩ => ⟨S128, .i32⟩
  | .hbm, ⟨15, _⟩ => ⟨S1x1x128, .i32⟩
  | .hbm, ⟨16, _⟩ => ⟨S8192x1x128, .i32⟩
  | .hbm, ⟨17, _⟩ => ⟨S8192x1x128, .i32⟩
  | .hbm, ⟨18, _⟩ => ⟨S8192x1x128, .i1⟩
  | .hbm, ⟨19, _⟩ => ⟨S8192x64x128, .i1⟩
  | .hbm, ⟨20, _⟩ => ⟨S8192x64x128, .i1⟩
  | .hbm, ⟨21, _⟩ => ⟨S8192x64x128, .i1⟩
  | .local _ .vmem, ⟨0, _⟩ => ⟨S512x4096, .f32⟩
  | .local _ .vmem, ⟨1, _⟩ => ⟨S512x4096, .f32⟩
  | .local _ .vmem, ⟨2, _⟩ => ⟨S4096x64, .f32⟩
  | .local _ .vmem, ⟨3, _⟩ => ⟨S512x64x128, .f32⟩
  | .local _ .vmem, ⟨4, _⟩ => ⟨S512x64x128, .f32⟩
  | .local _ .vmem, ⟨5, _⟩ => ⟨S1x1x512, .i32⟩
  | .local _ .vmem, ⟨6, _⟩ => ⟨S1x1x512, .i32⟩
  | .local _ .vmem, ⟨7, _⟩ => ⟨S1x1x512, .i32⟩
  | .local _ .vmem, ⟨8, _⟩ => ⟨S1x1x512, .i32⟩
  | .local _ .vmem, ⟨9, _⟩ => ⟨S1x64, .f32⟩
  | .local _ .vmem, ⟨10, _⟩ => ⟨S1x64, .f32⟩
  | .local _ .smem, ⟨0, _⟩ => ⟨S1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_1 : Ref sig .tc := ⟨.hbm, 2, rfl⟩
abbrev main_call0_v0_1 : Ref sig .tc := ⟨.hbm, 3, rfl⟩
abbrev main_call0_v0_2 : Ref sig .tc := ⟨.hbm, 4, rfl⟩
abbrev main_call0_v0_3 : Ref sig .tc := ⟨.hbm, 5, rfl⟩
abbrev main_v0_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_call0_v15 : Ref sig .tc := ⟨.hbm, 20, rfl⟩
abbrev main_v0_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v84 : BitVec 1 := Scalar.cmpi .eq arg0 c15_i32
  let v85 : BitVec 32 := Scalar.extui v84
  let c0_i32_35 : BitVec 32 := 0#32
  let v86 : BitVec 1 := Scalar.cmpi .ne v85 c0_i32_35
  v86

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8192x4096 : Shape := ⟨2, ![8192, 4096]⟩
abbrev S4096x64 : Shape := ⟨2, ![4096, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S64 : Shape := ⟨1, ![64]⟩
abbrev S1x128 : Shape := ⟨2, ![1, 128]⟩
abbrev S8192x128 : Shape := ⟨2, ![8192, 128]⟩
abbrev S8192x64x1 : Shape := ⟨3, ![8192, 64, 1]⟩
abbrev S8192x1x128 : Shape := ⟨3, ![8192, 1, 128]⟩
abbrev S8192x64x128 : Shape := ⟨3, ![8192, 64, 128]⟩

abbrev nBuf : Space → Nat
  | .hbm => 83
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S8192x64, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x64, .f32⟩
  | .hbm, ⟨16, _⟩ => ⟨S8192x64, .f32⟩
  | .hbm, ⟨17, _⟩ => ⟨S8192x64, .i32⟩
  | .hbm, ⟨18, _⟩ => ⟨S_, .f32⟩
  | .hbm, ⟨19, _⟩ => ⟨S_, .i32⟩
  | .hbm, ⟨20, _⟩ => ⟨S8192, .f32⟩
  | .hbm, ⟨21, _⟩ => ⟨S8192, .i32⟩
  | .hbm, ⟨22, _⟩ => ⟨S8192x1, .i32⟩
  | .hbm, ⟨23, _⟩ => ⟨S1x64, .i32⟩
  | .hbm, ⟨24, _⟩ => ⟨S8192x64, .i32⟩
  | .hbm, ⟨25, _⟩ => ⟨S8192x64, .i32⟩
  | .hbm, ⟨26, _⟩ => ⟨S8192x64, .i1⟩
  | .hbm, ⟨27, _⟩ => ⟨S8192x64, .f32⟩
  | .hbm, ⟨28, _⟩ => ⟨S8192x64, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S8192x64, .f32⟩
  | .hbm, ⟨34, _⟩ => ⟨S_, .f32⟩
  | .hbm, ⟨35, _⟩ => ⟨S8192x64, .f32⟩
  | .hbm, ⟨36, _⟩ => ⟨S8192x64, .f32⟩
  | .hbm, ⟨37, _⟩ => ⟨S_, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192x64, .f32⟩
  | .hbm, ⟨58, _⟩ => ⟨S8192x64, .i1⟩
  | .hbm, ⟨59, _⟩ => ⟨S8192x64, .f32⟩
  | .hbm, ⟨60, _⟩ => ⟨S8192x64, .f32⟩
  | .hbm, ⟨61, _⟩ => ⟨S8192x64, .f32⟩
  | .hbm, ⟨62, _⟩ => ⟨S_, .f32⟩
  | .hbm, ⟨63, _⟩ => ⟨S8192, .f32⟩
  | .hbm, ⟨64, _⟩ => ⟨S8192, .i32⟩
  | .hbm, ⟨65, _⟩ => ⟨S8192x1, .f32⟩
  | .hbm, ⟨66, _⟩ => ⟨S8192x64, .f32⟩
  | .hbm, ⟨67, _⟩ => ⟨S8192x64, .f32⟩
  | .hbm, ⟨68, _⟩ => ⟨S8192x1, .i32⟩
  | .hbm, ⟨69, _⟩ => ⟨S1x128, .i32⟩
  | .hbm, ⟨70, _⟩ => ⟨S8192x128, .i32⟩
  | .hbm, ⟨71, _⟩ => ⟨S8192x128, .i32⟩
  | .hbm, ⟨72, _⟩ => ⟨S8192x128, .i1⟩
  | .hbm, ⟨73, _⟩ => ⟨S8192x128, .f32⟩
  | .hbm, ⟨74, _⟩ => ⟨S8192x64x1, .f32⟩
  | .hbm, ⟨75, _⟩ => ⟨S8192x1x128, .f32⟩
  | .hbm, ⟨76, _⟩ => ⟨S8192x64x128, .f32⟩
  | .hbm, ⟨77, _⟩ => ⟨S8192x64x128, .f32⟩
  | .hbm, ⟨78, _⟩ => ⟨S8192x64x128, .f32⟩
  | .hbm, ⟨79, _⟩ => ⟨S_, .f32⟩
  | .hbm, ⟨80, _⟩ => ⟨S8192x64x128, .f32⟩
  | .hbm, ⟨81, _⟩ => ⟨S8192x64x128, .i1⟩
  | .hbm, ⟨82, _⟩ => ⟨S8192x64x128, .i1⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_cst : Ref sig .tc := ⟨.hbm, 18, rfl⟩
abbrev main_call0_c : Ref sig .tc := ⟨.hbm, 19, rfl⟩
abbrev main_call0_v1_0 : Ref sig .tc := ⟨.hbm, 20, rfl⟩
abbrev main_v12 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_call2_call0_cst : Ref sig .tc := ⟨.hbm, 31, rfl⟩
abbrev main_call2_call0_v0 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_cst_7 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_8 : Ref sig .tc := ⟨.hbm, 48, rfl⟩
abbrev main_v26 : Ref sig .tc := ⟨.hbm, 49, rfl⟩
abbrev main_cst_9 : Ref sig .tc := ⟨.hbm, 50, rfl⟩
abbrev main_v27 : Ref sig .tc := ⟨.hbm, 51, rfl⟩
abbrev main_cst_10 : Ref sig .tc := ⟨.hbm, 52, rfl⟩
abbrev main_v28 : Ref sig .tc := ⟨.hbm, 53, rfl⟩
abbrev main_cst_11 : Ref sig .tc := ⟨.hbm, 54, rfl⟩
abbrev main_v29 : Ref sig .tc := ⟨.hbm, 55, rfl⟩
abbrev main_cst_12 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_13 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_14 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩

abbrev nD : Nat := 1
abbrev τ : Topo := Topo.v7x

variable {F : FTy → Type} [FloatOps F]
-- ==== Proof.RefRun.lean ====
/-
  The reference run to its results. The program's statements stand as one list of host operations; each result is a
  named composition of a few tensor functions (softmax over the experts, the chosen expert, the one-hot mask, the
  running count, the kept mask, the loss, the combine tensor, the dispatch tensor), and `run` says that every execution
  ends with each result buffer at that composition of the two arguments.
-/
module

public import proofs.«01_k».proof.Proof.Gen.ReferenceIdeal
public import Idealize.ShloMosaic.Lib.StableHlo.Run

@[expose] public section

noncomputable section

namespace Moe.RefRun

open Cert.ReferenceIdeal Cert.ReferenceIdeal.Gen Idealize.ShloMosaic Idealize.ShloMosaic.TcCoe Idealize.SL.Sem Idealize.ShloMosaic.StableHlo

variable {F : FTy → Type} [FloatOps F]

/-- A vector of the program at the host: shape `s`, element type `e`. -/
abbrev Ten (F : FTy → Type) [FloatOps F] (s : Shape) (e : EltTy) : Type := (⟨s, e⟩ : BufTy).Contents (Elt F)

/-- One value per token, repeated over the experts. -/
def rows {e : EltTy} (v : Ten F S8192 e) : Ten F S8192x64 e :=
  broadcastInDim S8192x64 ![0, 1] bcast_S8192x1_S8192x64_0_1 (broadcastInDim S8192x1 ![0] bcast_S8192_S8192x1_0 v)

/-- A token-by-expert tensor holding one float constant. -/
def fill64 (b : BitVec 32) : Ten F S8192x64 .f32 := broadcastInDim S8192x64 ![] bcast_S_S8192x64 (constant S_ .f32 b)

/-- The logits: tokens times gating weights. -/
def logitsT (x : Ten F S8192x4096 .f32) (w : Ten F S4096x64 .f32) : Ten F S8192x64 .f32 :=
  Host.dotGeneral dot_S8192x4096_S4096x64_S8192x64_1_0_0_1_n_n none x w

/-- Each row's largest logit. -/
def topT (l : Ten F S8192x64 .f32) : Ten F S8192 .f32 :=
  maximumf (broadcastInDim S8192 ![] bcast_S_S8192 (constant S_ .f32 0xFF800000#32))
    (Host.reduce FloatOps.maximumf l (constant S_ .f32 0xFF800000#32) reducesTo_S8192x64_S8192_d1 h_S_)

/-- The exponentials of the logits less their row's largest. -/
def expsT (l : Ten F S8192x64 .f32) : Ten F S8192x64 .f32 := Host.exp (subf l (rows (topT l)))

/-- The sum of each row. -/
def rowSumT (e : Ten F S8192x64 .f32) : Ten F S8192 .f32 :=
  Host.reduceAdd e (constant S_ .f32 0x00000000#32) reducesTo_S8192x64_S8192_d1 h_S_

/-- The sum of each column. -/
def colSumT (e : Ten F S8192x64 .f32) : Ten F S64 .f32 :=
  Host.reduceAdd e (constant S_ .f32 0x00000000#32) reducesTo_S8192x64_S64_d0 h_S_

/-- The gates: the softmax of each row of logits. -/
def gatesT (l : Ten F S8192x64 .f32) : Ten F S8192x64 .f32 := Host.divf (expsT l) (rows (rowSumT (expsT l)))

/-- The expert of each token: the index of the row's largest gate. -/
def chosenT (g : Ten F S8192x64 .f32) : Ten F S8192 .i32 := fun j =>
  (Host.argReduce reducer_argmax_f32_i32 g (iotaInDim S8192x64 32 1) (constant S_ .f32 0xFF800000#32)
    (constantI S_ 32 0#32) reducesTo_S8192x64_S8192_d1 h_S_ j).2

/-- The one-hot mask of an expert per token. -/
def hotT (ix : Ten F S8192 .i32) : Ten F S8192x64 .f32 :=
  uitofp .f32 (cmpi .eq (rows (F := F) ix : Ten F S8192x64 .i32)
    (broadcastInDim S8192x64 ![0, 1] bcast_S1x64_S8192x64_0_1 (iotaInDim S1x64 32 1)))

/-- The one-hot of a slot per token. -/
def slotHotT (ix : Ten F S8192 .i32) : Ten F S8192x128 .f32 :=
  uitofp .f32 (cmpi .eq (broadcastInDim S8192x128 ![0, 1] bcast_S8192x1_S8192x128_0_1
      (broadcastInDim S8192x1 ![0] bcast_S8192_S8192x1_0 ix))
    (broadcastInDim S8192x128 ![0, 1] bcast_S1x128_S8192x128_0_1 (iotaInDim S1x128 32 1)))

/-- The running count of each expert's tokens, less one. -/
def placeT (mk : Ten F S8192x64 .f32) : Ten F S8192x64 .f32 :=
  subf (Host.reduceWindowAdd ![8192, 1] ![1, 1] ![8191, 0] ![0, 0] mk
      (broadcastInDim S_ ![] bcast_S_S_ (constant S_ .f32 0x00000000#32))
      reduceWindows_S8192x64_S8192x64_w8192s1p8191_0_w1s1p0_0 h_S_)
    (fill64 0x3F800000#32)

/-- The mask of the tokens that stay below an expert's capacity. -/
def keptT (mk : Ten F S8192x64 .f32) : Ten F S8192x64 .f32 :=
  mulf mk (uitofp .f32 (cmpf .olt (placeT mk) (fill64 0x43000000#32)))

/-- The mean of each column. -/
def colMeanT (e : Ten F S8192x64 .f32) : Ten F S64 .f32 :=
  Host.divf (colSumT e) (broadcastInDim S64 ![] bcast_S_S64 (constant S_ .f32 0x46000000#32))

/-- The balancing loss of the gates and the mask. -/
def lossT (g mk : Ten F S8192x64 .f32) : Ten F S_ .f32 :=
  mulf (mulf (Host.divf (Host.reduceAdd (mulf (colMeanT g) (colMeanT mk)) (constant S_ .f32 0x00000000#32)
      reducesTo_S64_S_d0 h_S_) (constant S_ .f32 0x42800000#32)) (constant S_ .f32 0x42800000#32))
    (constant S_ .f32 0x42800000#32)

/-- The slot of each kept token, zero for a dropped one. -/
def slotT (mk : Ten F S8192x64 .f32) : Ten F S8192 .i32 := fptosi 32 (rowSumT (mulf (placeT mk) (keptT mk)))

/-- The gate of each token at its expert, where it is kept. -/
def weightT (g mk : Ten F S8192x64 .f32) : Ten F S8192x64 .f32 := mulf (rows (rowSumT (mulf g mk))) (keptT mk)

/-- The combine tensor: a token's weight at its expert and slot. -/
def combineT (g mk : Ten F S8192x64 .f32) : Ten F S8192x64x128 .f32 :=
  mulf (broadcastInDim S8192x64x128 ![0, 1, 2] bcast_S8192x64x1_S8192x64x128_0_1_2
      (broadcastInDim S8192x64x1 ![0, 1] bcast_S8192x64_S8192x64x1_0_1 (weightT g mk)))
    (broadcastInDim S8192x64x128 ![0, 1, 2] bcast_S8192x1x128_S8192x64x128_0_1_2
      (broadcastInDim S8192x1x128 ![0, 2] bcast_S8192x128_S8192x1x128_0_2 (slotHotT (slotT mk))))

/-- The dispatch tensor: where the combine tensor is not zero. -/
def dispatchT (cb : Ten F S8192x64x128 .f32) : Ten F S8192x64x128 .i1 :=
  id (cmpf .une cb (broadcastInDim S8192x64x128 ![] bcast_S_S8192x64x128 (constant S_ .f32 0x00000000#32)))

/-- The program's operations, in order. -/
abbrev ops : List (HloOp τ sig (Elt F)) :=
  [ binary main_arg0 main_arg1 main_v0 ((fun l r => Host.dotGeneral dot_S8192x4096_S4096x64_S8192x64_1_0_0_1_n_n none l r) : (⟨S8192x4096, .f32⟩ : BufTy).Contents (Elt F) → (⟨S4096x64, .f32⟩ : BufTy).Contents (Elt F) → (⟨S8192x64, .f32⟩ : BufTy).Contents (Elt F)),
    nullary main_cst (constant S_ .f32 0xFF800000#32),
    binary main_v0 main_cst main_v1 ((fun x v => Host.reduce FloatOps.maximumf x v reducesTo_S8192x64_S8192_d1 h_S_) : (⟨S8192x64, .f32⟩ : BufTy).Contents (Elt F) → (⟨S_, .f32⟩ : BufTy).Contents (Elt F) → (⟨S8192, .f32⟩ : BufTy).Contents (Elt F)),
    nullary main_cst_0 (constant S_ .f32 0xFF800000#32),
    unary main_cst_0 main_v2 (broadcastInDim S8192 ![] bcast_S_S8192 : (⟨S_, .f32⟩ : BufTy).Contents (Elt F) → (⟨S8192, .f32⟩ : BufTy).Contents (Elt F)),
    binary main_v2 main_v1 main_v3 (maximumf : (⟨S8192, .f32⟩ : BufTy).Contents (Elt F) → (⟨S8192, .f32⟩ : BufTy).Contents (Elt F) → (⟨S8192, .f32⟩ : BufTy).Contents (Elt F)),
    unary main_v3 main_v4 (broadcastInDim S8192x1 ![0] bcast_S8192_S8192x1_0 : (⟨S8192, .f32⟩ : BufTy).Contents (Elt F) → (⟨S8192x1, .f32⟩ : BufTy).Contents (Elt F)),
    unary main_v4 main_v5 (broadcastInDim S8192x64 ![0, 1] bcast_S8192x1_S8192x64_0_1 : (⟨S8192x1, .f32⟩ : BufTy).Contents (Elt F) → (⟨S8192x64, .f32⟩ : BufTy).Contents (Elt F)),
    binary main_v0 main_v5 main_v6 (subf : (⟨S8192x64, .f32⟩ : BufTy).Contents (Elt F) → (⟨S8192x64, .f32⟩ : BufTy).Contents (Elt F) → (⟨S8192x64, .f32⟩ : BufTy).Contents (Elt F)),
    unary main_v6 main_v7 (Host.exp : (⟨S8192x64, .f32⟩ : BufTy).Contents (Elt F) → (⟨S8192x64, .f32⟩ : BufTy).Contents (Elt F)),
    nullary main_cst_1 (constant S_ .f32 0x00000000#32),
    binary main_v7 main_cst_1 main_v8 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v8 main_v9 (broadcastInDim S8192x1 ![0] bcast_S8192_S8192x1_0 : (⟨S8192, .f32⟩ : BufTy).Contents (Elt F) → (⟨S8192x1, .f32⟩ : BufTy).Contents (Elt F)),
    unary main_v9 main_v10 (broadcastInDim S8192x64 ![0, 1] bcast_S8192x1_S8192x64_0_1 : (⟨S8192x1, .f32⟩ : BufTy).Contents (Elt F) → (⟨S8192x64, .f32⟩ : BufTy).Contents (Elt F)),
    binary main_v7 main_v10 main_v11 (Host.divf : (⟨S8192x64, .f32⟩ : BufTy).Contents (Elt F) → (⟨S8192x64, .f32⟩ : BufTy).Contents (Elt F) → (⟨S8192x64, .f32⟩ : BufTy).Contents (Elt F)),
    TRef.nullary (.of (T := ⟨S8192x64, .i32⟩) main_call0_v0) (iotaInDim S8192x64 32 1),
    TRef.nullary (.of (T := ⟨S_, .f32⟩) main_call0_cst) (constant S_ .f32 0xFF800000#32),
    TRef.nullary (.of (T := ⟨S_, .i32⟩) main_call0_c) (constantI S_ 32 0#32),
    TRef.quaternary (.of (T := ⟨S8192x64, .f32⟩) main_v11) (.of (T := ⟨S8192x64, .i32⟩) main_call0_v0) (.of (T := ⟨S_, .f32⟩) main_call0_cst) (.of (T := ⟨S_, .i32⟩) main_call0_c) (.of (T := ⟨S8192, .f32⟩) main_call0_v1_0) (fun x y u v j => (Host.argReduce reducer_argmax_f32_i32 x y u v reducesTo_S8192x64_S8192_d1 h_S_ j).1),
    TRef.quaternary (.of (T := ⟨S8192x64, .f32⟩) main_v11) (.of (T := ⟨S8192x64, .i32⟩) main_call0_v0) (.of (T := ⟨S_, .f32⟩) main_call0_cst) (.of (T := ⟨S_, .i32⟩) main_call0_c) (.of (T := ⟨S8192, .i32⟩) main_v12) (fun x y u v j => (Host.argReduce reducer_argmax_f32_i32 x y u v reducesTo_S8192x64_S8192_d1 h_S_ j).2),
    TRef.unary (.of (T := ⟨S8192, .i32⟩) main_v12) (.of (T := ⟨S8192x1, .i32⟩) main_call1_v0) (broadcastInDim S8192x1 ![0] bcast_S8192_S8192x1_0),
    TRef.nullary (.of (T := ⟨S1x64, .i32⟩) main_call1_v1) (iotaInDim S1x64 32 1),
    TRef.unary (.of (T := ⟨S8192x1, .i32⟩) main_call1_v0) (.of (T := ⟨S8192x64, .i32⟩) main_call1_v2) (broadcastInDim S8192x64 ![0, 1] bcast_S8192x1_S8192x64_0_1),
    TRef.unary (.of (T := ⟨S1x64, .i32⟩) main_call1_v1) (.of (T := ⟨S8192x64, .i32⟩) main_call1_v3) (broadcastInDim S8192x64 ![0, 1] bcast_S1x64_S8192x64_0_1),
    TRef.binary (.of (T := ⟨S8192x64, .i32⟩) main_call1_v2) (.of (T := ⟨S8192x64, .i32⟩) main_call1_v3) (.of (T := ⟨S8192x64, .i1⟩) main_call1_v4) (cmpi .eq),
    TRef.unary (.of (T := ⟨S8192x64, .i1⟩) main_call1_v4) (.of (T := ⟨S8192x64, .f32⟩) main_v13) (uitofp .f32),
    binary main_v11 main_v13 main_v14 (mulf : (⟨S8192x64, .f32⟩ : BufTy).Contents (Elt F) → (⟨S8192x64, .f32⟩ : BufTy).Contents (Elt F) → (⟨S8192x64, .f32⟩ : BufTy).Contents (Elt F)),
    nullary main_cst_2 (constant S_ .f32 0x00000000#32),
    binary main_v14 main_cst_2 main_v15 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    TRef.nullary (.of (T := ⟨S_, .f32⟩) main_call2_call0_cst) (constant S_ .f32 0x00000000#32),
    TRef.unary (.of (T := ⟨S_, .f32⟩) main_call2_call0_cst) (.of (T := ⟨S_, .f32⟩) main_call2_call0_v0) (broadcastInDim S_ ![] bcast_S_S_),
    TRef.binary (.of (T := ⟨S8192x64, .f32⟩) main_v13) (.of (T := ⟨S_, .f32⟩) main_call2_call0_v0) (.of (T := ⟨S8192x64, .f32⟩) main_v16) (fun x v => Host.reduceWindowAdd ![8192, 1] ![1, 1] ![8191, 0] ![0, 0] x v reduceWindows_S8192x64_S8192x64_w8192s1p8191_0_w1s1p0_0 h_S_),
    nullary main_cst_3 (constant S_ .f32 0x3F800000#32),
    unary main_cst_3 main_v17 (broadcastInDim S8192x64 ![] bcast_S_S8192x64 : (⟨S_, .f32⟩ : BufTy).Contents (Elt F) → (⟨S8192x64, .f32⟩ : BufTy).Contents (Elt F)),
    binary main_v16 main_v17 main_v18 (subf : (⟨S8192x64, .f32⟩ : BufTy).Contents (Elt F) → (⟨S8192x64, .f32⟩ : BufTy).Contents (Elt F) → (⟨S8192x64, .f32⟩ : BufTy).Contents (Elt F)),
    nullary main_cst_4 (constant S_ .f32 0x00000000#32),
    binary main_v11 main_cst_4 main_v19 ((fun x v => Host.reduceAdd x v reducesTo_S8192x64_S64_d0 h_S_) : (⟨S8192x64, .f32⟩ : BufTy).Contents (Elt F) → (⟨S_, .f32⟩ : BufTy).Contents (Elt F) → (⟨S64, .f32⟩ : BufTy).Contents (Elt F)),
    nullary main_cst_5 (constant S_ .f32 0x46000000#32),
    unary main_cst_5 main_v20 (broadcastInDim S64 ![] bcast_S_S64 : (⟨S_, .f32⟩ : BufTy).Contents (Elt F) → (⟨S64, .f32⟩ : BufTy).Contents (Elt F)),
    binary main_v19 main_v20 main_v21 (Host.divf : (⟨S64, .f32⟩ : BufTy).Contents (Elt F) → (⟨S64, .f32⟩ : BufTy).Contents (Elt F) → (⟨S64, .f32⟩ : BufTy).Contents (Elt F)),
    nullary main_cst_6 (constant S_ .f32 0x00000000#32),
    binary main_v13 main_cst_6 main_v22 ((fun x v => Host.reduceAdd x v reducesTo_S8192x64_S64_d0 h_S_) : (⟨S8192x64, .f32⟩ : BufTy).Contents (Elt F) → (⟨S_, .f32⟩ : BufTy).Contents (Elt F) → (⟨S64, .f32⟩ : BufTy).Contents (Elt F)),
    nullary main_cst_7 (constant S_ .f32 0x46000000#32),
    unary main_cst_7 main_v23 (broadcastInDim S64 ![] bcast_S_S64 : (⟨S_, .f32⟩ : BufTy).Contents (Elt F) → (⟨S64, .f32⟩ : BufTy).Contents (Elt F)),
    binary main_v22 main_v23 main_v24 (Host.divf : (⟨S64, .f32⟩ : BufTy).Contents (Elt F) → (⟨S64, .f32⟩ : BufTy).Contents (Elt F) → (⟨S64, .f32⟩ : BufTy).Contents (Elt F)),
    binary main_v21 main_v24 main_v25 (mulf : (⟨S64, .f32⟩ : BufTy).Contents (Elt F) → (⟨S64, .f32⟩ : BufTy).Contents (Elt F) → (⟨S64, .f32⟩ : BufTy).Contents (Elt F)),
    nullary main_cst_8 (constant S_ .f32 0x00000000#32),
    binary main_v25 main_cst_8 main_v26 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_9 (constant S_ .f32 0x42800000#32),
    binary main_v26 main_cst_9 main_v27 (Host.divf : (⟨S_, .f32⟩ : BufTy).Contents (Elt F) → (⟨S_, .f32⟩ : BufTy).Contents (Elt F) → (⟨S_, .f32⟩ : BufTy).Contents (Elt F)),
    nullary main_cst_10 (constant S_ .f32 0x42800000#32),
    binary main_v27 main_cst_10 main_v28 (mulf : (⟨S_, .f32⟩ : BufTy).Contents (Elt F) → (⟨S_, .f32⟩ : BufTy).Contents (Elt F) → (⟨S_, .f32⟩ : BufTy).Contents (Elt F)),
    nullary main_cst_11 (constant S_ .f32 0x42800000#32),
    binary main_v28 main_cst_11 main_v29 (mulf : (⟨S_, .f32⟩ : BufTy).Contents (Elt F) → (⟨S_, .f32⟩ : BufTy).Contents (Elt F) → (⟨S_, .f32⟩ : BufTy).Contents (Elt F)),
    nullary main_cst_12 (constant S_ .f32 0x43000000#32),
    unary main_cst_12 main_v30 (broadcastInDim S8192x64 ![] bcast_S_S8192x64 : (⟨S_, .f32⟩ : BufTy).Contents (Elt F) → (⟨S8192x64, .f32⟩ : BufTy).Contents (Elt F)),
    binary main_v18 main_v30 main_v31 (cmpf .olt : (⟨S8192x64, .f32⟩ : BufTy).Contents (Elt F) → (⟨S8192x64, .f32⟩ : BufTy).Contents (Elt F) → (⟨S8192x64, .i1⟩ : BufTy).Contents (Elt F)),
    unary main_v31 main_v32 (uitofp .f32 : (⟨S8192x64, .i1⟩ : BufTy).Contents (Elt F) → (⟨S8192x64, .f32⟩ : BufTy).Contents (Elt F)),
    binary main_v13 main_v32 main_v33 (mulf : (⟨S8192x64, .f32⟩ : BufTy).Contents (Elt F) → (⟨S8192x64, .f32⟩ : BufTy).Contents (Elt F) → (⟨S8192x64, .f32⟩ : BufTy).Contents (Elt F)),
    binary main_v18 main_v33 main_v34 (mulf : (⟨S8192x64, .f32⟩ : BufTy).Contents (Elt F) → (⟨S8192x64, .f32⟩ : BufTy).Contents (Elt F) → (⟨S8192x64, .f32⟩ : BufTy).Contents (Elt F)),
    nullary main_cst_13 (constant S_ .f32 0x00000000#32),
    binary main_v34 main_cst_13 main_v35 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v35 main_v36 (fptosi 32 : (⟨S8192, .f32⟩ : BufTy).Contents (Elt F) → (⟨S8192, .i32⟩ : BufTy).Contents (Elt F)),
    unary main_v15 main_v37 (broadcastInDim S8192x1 ![0] bcast_S8192_S8192x1_0 : (⟨S8192, .f32⟩ : BufTy).Contents (Elt F) → (⟨S8192x1, .f32⟩ : BufTy).Contents (Elt F)),
    unary main_v37 main_v38 (broadcastInDim S8192x64 ![0, 1] bcast_S8192x1_S8192x64_0_1 : (⟨S8192x1, .f32⟩ : BufTy).Contents (Elt F) → (⟨S8192x64, .f32⟩ : BufTy).Contents (Elt F)),
    binary main_v38 main_v33 main_v39 (mulf : (⟨S8192x64, .f32⟩ : BufTy).Contents (Elt F) → (⟨S8192x64, .f32⟩ : BufTy).Contents (Elt F) → (⟨S8192x64, .f32⟩ : BufTy).Contents (Elt F)),
    TRef.unary (.of (T := ⟨S8192, .i32⟩) main_v36) (.of (T := ⟨S8192x1, .i32⟩) main_call3_v0) (broadcastInDim S8192x1 ![0] bcast_S8192_S8192x1_0),
    TRef.nullary (.of (T := ⟨S1x128, .i32⟩) main_call3_v1) (iotaInDim S1x128 32 1),
    TRef.unary (.of (T := ⟨S8192x1, .i32⟩) main_call3_v0) (.of (T := ⟨S8192x128, .i32⟩) main_call3_v2) (broadcastInDim S8192x128 ![0, 1] bcast_S8192x1_S8192x128_0_1),
    TRef.unary (.of (T := ⟨S1x128, .i32⟩) main_call3_v1) (.of (T := ⟨S8192x128, .i32⟩) main_call3_v3) (broadcastInDim S8192x128 ![0, 1] bcast_S1x128_S8192x128_0_1),
    TRef.binary (.of (T := ⟨S8192x128, .i32⟩) main_call3_v2) (.of (T := ⟨S8192x128, .i32⟩) main_call3_v3) (.of (T := ⟨S8192x128, .i1⟩) main_call3_v4) (cmpi .eq),
    TRef.unary (.of (T := ⟨S8192x128, .i1⟩) main_call3_v4) (.of (T := ⟨S8192x128, .f32⟩) main_v40) (uitofp .f32),
    unary main_v39 main_v41 (broadcastInDim S8192x64x1 ![0, 1] bcast_S8192x64_S8192x64x1_0_1 : (⟨S8192x64, .f32⟩ : BufTy).Contents (Elt F) → (⟨S8192x64x1, .f32⟩ : BufTy).Contents (Elt F)),
    unary main_v40 main_v42 (broadcastInDim S8192x1x128 ![0, 2] bcast_S8192x128_S8192x1x128_0_2 : (⟨S8192x128, .f32⟩ : BufTy).Contents (Elt F) → (⟨S8192x1x128, .f32⟩ : BufTy).Contents (Elt F)),
    unary main_v41 main_v43 (broadcastInDim S8192x64x128 ![0, 1, 2] bcast_S8192x64x1_S8192x64x128_0_1_2 : (⟨S8192x64x1, .f32⟩ : BufTy).Contents (Elt F) → (⟨S8192x64x128, .f32⟩ : BufTy).Contents (Elt F)),
    unary main_v42 main_v44 (broadcastInDim S8192x64x128 ![0, 1, 2] bcast_S8192x1x128_S8192x64x128_0_1_2 : (⟨S8192x1x128, .f32⟩ : BufTy).Contents (Elt F) → (⟨S8192x64x128, .f32⟩ : BufTy).Contents (Elt F)),
    binary main_v43 main_v44 main_v45 (mulf : (⟨S8192x64x128, .f32⟩ : BufTy).Contents (Elt F) → (⟨S8192x64x128, .f32⟩ : BufTy).Contents (Elt F) → (⟨S8192x64x128, .f32⟩ : BufTy).Contents (Elt F)),
    nullary main_cst_14 (constant S_ .f32 0x00000000#32),
    unary main_cst_14 main_v46 (broadcastInDim S8192x64x128 ![] bcast_S_S8192x64x128 : (⟨S_, .f32⟩ : BufTy).Contents (Elt F) → (⟨S8192x64x128, .f32⟩ : BufTy).Contents (Elt F)),
    binary main_v45 main_v46 main_v47 (cmpf .une : (⟨S8192x64x128, .f32⟩ : BufTy).Contents (Elt F) → (⟨S8192x64x128, .f32⟩ : BufTy).Contents (Elt F) → (⟨S8192x64x128, .i1⟩ : BufTy).Contents (Elt F)),
    unary main_v47 main_v48 (id : (⟨S8192x64x128, .i1⟩ : BufTy).Contents (Elt F) → (⟨S8192x64x128, .i1⟩ : BufTy).Contents (Elt F)) ]

set_option maxRecDepth 8192 in
set_option maxHeartbeats 4000000 in
/-- The printed program is that list run in order. -/
theorem main_is_ops (c : Dev nD) : main (F := F) c = seq ops := rfl

/-- No buffer of the program is scoped. -/
theorem no_scoped_refs : (Finset.univ.filter fun b : Ref sig .tc => b.isScoped) = ∅ := by decide

/-- No semaphore of the program is scoped. -/
theorem no_scoped_sems : (Finset.univ.filter fun sm : SemLoc sig => sm.isScoped .tc) = ∅ := by decide

set_option maxRecDepth 8192 in
/-- Every operation works on buffers of the core. -/
theorem ops_in_core : (ops : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., nullary_bufs_sub .., binary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., unary_bufs_sub .., binary_bufs_sub .., unary_bufs_sub .., nullary_bufs_sub .., unary_bufs_sub .., unary_bufs_sub .., binary_bufs_sub .., unary_bufs_sub .., unary_bufs_sub .., unary_bufs_sub .., unary_bufs_sub .., unary_bufs_sub .., binary_bufs_sub .., nullary_bufs_sub .., unary_bufs_sub .., binary_bufs_sub .., unary_bufs_sub ..⟩

/-- The reference's gates, of a launch memory. -/
def gatesAt (m : (ℓ : Loc nD τ sig) → Buf (Elt F) ℓ) (c : Dev nD) : Ten F S8192x64 .f32 :=
  gatesT (logitsT (m ((c.tc : Thread nD τ).loc main_arg0)) (m ((c.tc : Thread nD τ).loc main_arg1)))

/-- The reference's mask, of a launch memory. -/
def maskAt (m : (ℓ : Loc nD τ sig) → Buf (Elt F) ℓ) (c : Dev nD) : Ten F S8192x64 .f32 := hotT (chosenT (gatesAt m c))

set_option maxRecDepth 8192 in
set_option maxHeartbeats 35200000 in
/-- From any memory with zero counters, every weakly fair execution of the reference ends with the three results at
    the loss, the combine tensor and the dispatch tensor of the gates, and with the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = lossT (gatesAt m c) (maskAt m c)
      ∧ r.2.mem ((c.tc : Thread nD τ).loc main_v45) = combineT (gatesAt m c) (maskAt m c)
      ∧ r.2.mem ((c.tc : Thread nD τ).loc main_v48) = dispatchT (combineT (gatesAt m c) (maskAt m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v29).trans (by
        simp only [ops, TRef.binary, TRef.nullary, TRef.quaternary, TRef.unary, TRef.toBuf, TRef.ofBuf, cast_eq]
        after_results_simp <;> rfl),
      (h c main_v45).trans (by
        simp only [ops, TRef.binary, TRef.nullary, TRef.quaternary, TRef.unary, TRef.toBuf, TRef.ofBuf, cast_eq]
        after_results_simp <;> rfl),
      (h c main_v48).trans (by
        simp only [ops, TRef.binary, TRef.nullary, TRef.quaternary, TRef.unary, TRef.toBuf, TRef.ofBuf, cast_eq]
        after_results_simp <;> rfl),
      (h c main_arg0).trans (by
        simp only [ops, TRef.binary, TRef.nullary, TRef.quaternary, TRef.unary, TRef.toBuf, TRef.ofBuf, cast_eq]
        after_results_simp),
      (h c main_arg1).trans (by
        simp only [ops, TRef.binary, TRef.nullary, TRef.quaternary, TRef.unary, TRef.toBuf, TRef.ofBuf, cast_eq]
        after_results_simp)⟩)
    (run_seq no_scoped_refs no_scoped_sems defs main (fun _ => ops) main_is_ops (fun _ => ops_in_core) m ρ)

end Moe.RefRun

end
-- ==== Proof.Spec.lean ====
/-
  The mathematics of the gate on extended reals, with no program in it. A token `s` has a row of 64 logits; its gates
  are the softmax of the row; the token goes to the first expert whose gate is greatest, at the place that counts the
  earlier tokens sent to the same expert. The three results are stated here in these words, together with the facts
  about them that the two programs' readings meet at.
-/
module

public import Idealize.ShloMosaic.PureOps.Ideal
public import Idealize.ShloMosaic.PureOps.Ideal.Laws

@[expose] public section

noncomputable section

namespace Moe.Spec

open Idealize.ShloMosaic

/-- A row over the 64 experts. -/
abbrev Row := Fin 64 → EReal

/-- The greatest entry of a row. -/
def top (r : Row) : EReal := Finset.univ.fold max ⊥ r

theorem top_eq_sup (r : Row) : top r = Finset.univ.sup r := rfl

/-- No entry of a row is above its greatest. -/
theorem le_top (r : Row) (e : Fin 64) : r e ≤ top r := by
  rw [top_eq_sup]; exact Finset.le_sup (Finset.mem_univ e)

/-- Some entry of a row is its greatest. -/
theorem exists_eq_top (r : Row) : ∃ e, r e = top r := by
  obtain ⟨e, -, he⟩ := Finset.exists_mem_eq_sup Finset.univ ⟨0, Finset.mem_univ _⟩ r
  exact ⟨e, by rw [top_eq_sup, he]⟩

/-- The experts whose entry is the greatest. -/
def tops (r : Row) : Finset (Fin 64) := Finset.univ.filter fun e => r e = top r

theorem tops_nonempty (r : Row) : (tops r).Nonempty := by
  obtain ⟨e, he⟩ := exists_eq_top r
  exact ⟨e, Finset.mem_filter.mpr ⟨Finset.mem_univ _, he⟩⟩

/-- The first expert whose entry is the greatest. -/
def first (r : Row) : Fin 64 := (tops r).min' (tops_nonempty r)

/-- The entry at the first greatest expert is the greatest. -/
theorem at_first (r : Row) : r (first r) = top r :=
  (Finset.mem_filter.mp ((tops r).min'_mem (tops_nonempty r))).2

/-- No greatest expert comes before the first. -/
theorem first_le (r : Row) (e : Fin 64) (h : r e = top r) : first r ≤ e :=
  (tops r).min'_le e (Finset.mem_filter.mpr ⟨Finset.mem_univ _, h⟩)

/-- A greatest expert with none before it is the first. -/
theorem first_unique (r : Row) (e : Fin 64) (h : r e = top r) (hb : ∀ e', r e' = top r → e ≤ e') : first r = e :=
  le_antisymm (first_le r e h) (hb _ (at_first r))

/-- The softmax of a row, with the row's greatest entry subtracted first. -/
def soft (l : Row) : Row := fun e => Ideal.div (Ideal.exp (l e - top l)) (∑ e', Ideal.exp (l e' - top l))

/-- A row whose exponents are all `⊥` has every gate `0 / 0`. -/
theorem soft_of_bot (l : Row) (h : ∀ e, l e - top l = ⊥) (e : Fin 64) : soft l e = ⊥ := by
  simp [soft, h, Ideal.div]

/-- The greatest gate is never zero: either the row has a real greatest logit, and that expert's gate is positive, or
    every gate is the quotient `0 / 0`. -/
theorem top_soft_ne_zero (l : Row) : top (soft l) ≠ 0 := by
  have hbot : (∀ e, l e - top l = ⊥) → top (soft l) ≠ 0 := by
    intro h
    obtain ⟨e, he⟩ := exists_eq_top (soft l)
    rw [← he, soft_of_bot l h]
    exact EReal.bot_ne_zero
  rcases hM : top l with _ | _ | M
  · refine hbot fun e => ?_
    have hM' : top l = ⊥ := hM
    have hle := le_top l e
    rw [hM'] at hle
    rw [hM', le_bot_iff.mp hle]; rfl
  · refine hbot fun e => ?_
    have hM' : top l = ⊤ := hM
    rw [hM', sub_eq_add_neg, EReal.neg_top, EReal.add_bot]
  · have hM' : top l = (M : EReal) := hM
    have hterm : ∀ e, 0 ≤ Ideal.exp (l e - top l) ∧ Ideal.exp (l e - top l) ≤ 1 := by
      intro e
      have hle := hM' ▸ le_top l e
      rcases hl : l e with _ | _ | y
      · have hl' : l e = ⊥ := hl
        rw [hM']
        show 0 ≤ Ideal.exp (⊥ - (M : EReal)) ∧ Ideal.exp (⊥ - (M : EReal)) ≤ 1
        rw [EReal.bot_sub, Ideal.exp_bot]
        exact ⟨le_refl _, zero_le_one⟩
      · have hl' : l e = ⊤ := hl
        rw [hl'] at hle
        exact absurd (top_le_iff.mp hle) (EReal.coe_ne_top M)
      · have hl' : l e = (y : EReal) := hl
        rw [hl'] at hle
        rw [hM']
        show 0 ≤ Ideal.exp ((y : EReal) - (M : EReal)) ∧ Ideal.exp ((y : EReal) - (M : EReal)) ≤ 1
        rw [← EReal.coe_sub, Ideal.exp_coe]
        refine ⟨EReal.coe_nonneg.mpr (Real.exp_pos _).le, ?_⟩
        rw [← EReal.coe_one]
        exact EReal.coe_le_coe_iff.mpr (Real.exp_le_one_iff.mpr (by linarith [EReal.coe_le_coe_iff.mp hle]))
    obtain ⟨e, he⟩ := exists_eq_top l
    have hone : Ideal.exp (l e - top l) = 1 := by
      rw [he, hM', ← EReal.coe_sub, sub_self, Ideal.exp_coe, Real.exp_zero, EReal.coe_one]
    have hge : 1 ≤ ∑ e', Ideal.exp (l e' - top l) := by
      rw [← hone]
      exact Finset.single_le_sum (f := fun e' => Ideal.exp (l e' - top l)) (fun e' _ => (hterm e').1) (Finset.mem_univ e)
    have hle : ∑ e', Ideal.exp (l e' - top l) ≤ ((64 : ℝ) : EReal) := by
      refine (Finset.sum_le_sum fun e' _ => (hterm e').2).trans (le_of_eq ?_)
      rw [Finset.sum_const, Finset.card_univ, Fintype.card_fin, ← EReal.coe_one, ← EReal.coe_nsmul]
      norm_num
    have hpos : 0 < ∑ e', Ideal.exp (l e' - top l) := lt_of_lt_of_le zero_lt_one hge
    have hsoft : 0 < soft l e := by
      unfold soft
      rw [hone, Ideal.div, if_neg hpos.ne', one_mul]
      exact EReal.inv_pos_of_pos_ne_top hpos (fun h => by rw [h] at hle; exact absurd (top_le_iff.mp hle) (EReal.coe_ne_top _))
    exact (lt_of_lt_of_le hsoft (le_top _ e)).ne'

/-! ### Natural numbers as extended reals -/

/-- A natural number as an extended real. -/
def nat (n : ℕ) : EReal := ((n : ℝ) : EReal)

@[simp] theorem nat_zero : nat 0 = 0 := by simp [nat]
@[simp] theorem nat_one : nat 1 = 1 := by simp [nat]
theorem nat_add (a b : ℕ) : nat (a + b) = nat a + nat b := by simp [nat, EReal.coe_add]
theorem nat_mul (a b : ℕ) : nat (a * b) = nat a * nat b := by simp [nat, EReal.coe_mul]

/-- Sums of natural numbers, taken as extended reals. -/
theorem nat_sum {ι : Type*} (s : Finset ι) (f : ι → ℕ) : nat (∑ i ∈ s, f i) = ∑ i ∈ s, nat (f i) := by
  classical
  induction s using Finset.induction_on with
  | empty => simp
  | insert a s ha ih => rw [Finset.sum_insert ha, Finset.sum_insert ha, nat_add, ih]

/-- One less than a successor. -/
theorem nat_succ_sub (n : ℕ) : nat (n + 1) - 1 = nat n := by
  unfold nat
  rw [← EReal.coe_one, ← EReal.coe_sub]
  norm_num

theorem nat_lt (a b : ℕ) : nat a < nat b ↔ a < b := by
  unfold nat
  rw [EReal.coe_lt_coe_iff, Nat.cast_lt]

/-! ### Where each token goes -/

/-- `1` at the expert the row goes to, `0` elsewhere. -/
def hot (r : Row) (e : Fin 64) : ℕ := if first r = e then 1 else 0

/-- How many of the tokens before `n` go to expert `e`. -/
def count (g : ℕ → Row) (n : ℕ) (e : Fin 64) : ℕ := ∑ s ∈ Finset.range n, hot (g s) e

/-- The gates of expert `e` summed over the tokens before `n`. -/
def mass (g : ℕ → Row) (n : ℕ) (e : Fin 64) : EReal := ∑ s ∈ Finset.range n, g s e

/-- Token `n`'s place at its expert: how many earlier tokens go there. -/
def rank (g : ℕ → Row) (n : ℕ) : ℕ := count g n (first (g n))

@[simp] theorem count_zero (g : ℕ → Row) (e : Fin 64) : count g 0 e = 0 := rfl
@[simp] theorem mass_zero (g : ℕ → Row) (e : Fin 64) : mass g 0 e = 0 := rfl

theorem count_succ (g : ℕ → Row) (n : ℕ) (e : Fin 64) : count g (n + 1) e = count g n e + hot (g n) e :=
  Finset.sum_range_succ _ _

theorem count_add (g : ℕ → Row) (n k : ℕ) (e : Fin 64) :
    count g (n + k) e = count g n e + ∑ j : Fin k, hot (g (n + j)) e := by
  unfold count
  rw [Finset.sum_range_add]
  exact congrArg (_ + ·) (Finset.sum_range _)

theorem mass_add (g : ℕ → Row) (n k : ℕ) (e : Fin 64) :
    mass g (n + k) e = mass g n e + ∑ j : Fin k, g (n + j) e := by
  unfold mass
  rw [Finset.sum_range_add]
  exact congrArg (_ + ·) (Finset.sum_range _)

/-- A count is at most the number of tokens counted. -/
theorem count_le (g : ℕ → Row) (n : ℕ) (e : Fin 64) : count g n e ≤ n := by
  unfold count hot
  refine (Finset.sum_le_card_nsmul _ _ 1 fun s _ => ?_).trans (by simp)
  split <;> omega

theorem rank_le (g : ℕ → Row) (n : ℕ) : rank g n ≤ n := count_le g n _

/-- The gate kept for token `n` at expert `e` and place `p`. -/
def comb (g : ℕ → Row) (n : ℕ) (e : Fin 64) (p : Fin 128) : EReal :=
  if first (g n) = e ∧ rank g n = p.val then top (g n) else 0

/-- Whether token `n` sits at expert `e` and place `p`. -/
def disp (g : ℕ → Row) (n : ℕ) (e : Fin 64) (p : Fin 128) : BitVec 1 :=
  if first (g n) = e ∧ rank g n = p.val then 1 else 0

/-- The load-balancing loss. -/
def loss (g : ℕ → Row) : EReal := (∑ e, mass g 8192 e * nat (count g 8192 e)) * (((2 : ℝ) ^ (-20 : ℤ) : ℝ) : EReal)

/-! ### The loss written with means -/

/-- Division by a positive real is multiplication by its inverse. -/
theorem div_coe_pos (x : EReal) (r : ℝ) (h : 0 < r) : Ideal.div x (r : EReal) = x * ((r⁻¹ : ℝ) : EReal) := by
  unfold Ideal.div
  rw [if_neg (by exact_mod_cast h.ne'), EReal.coe_inv]

/-- A real factor leaves a sum of extended reals. -/
theorem sum_mul_coe {ι : Type*} (s : Finset ι) (f : ι → EReal) (r : ℝ) (h : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.mpr h) (EReal.coe_ne_top r)]

/-- The mean of the products of the two column means, scaled by the number of experts squared, is the loss. -/
theorem loss_of_means (M C : Row) :
    Ideal.div (∑ e, Ideal.div (M e) ((8192 : ℝ) : EReal) * Ideal.div (C e) ((8192 : ℝ) : EReal)) ((64 : ℝ) : EReal)
        * ((64 : ℝ) : EReal) * ((64 : ℝ) : EReal)
      = (∑ e, M e * C e) * (((2 : ℝ) ^ (-20 : ℤ) : ℝ) : EReal) := by
  have hterm : ∀ e, Ideal.div (M e) ((8192 : ℝ) : EReal) * Ideal.div (C e) ((8192 : ℝ) : EReal)
      = (M e * C e) * (((8192 : ℝ)⁻¹ * (8192 : ℝ)⁻¹ : ℝ) : EReal) := by
    intro e
    rw [div_coe_pos _ _ (by norm_num), div_coe_pos _ _ (by norm_num), EReal.coe_mul, mul_mul_mul_comm]
  rw [Finset.sum_congr rfl fun e _ => hterm e, ← sum_mul_coe _ _ _ (by positivity), div_coe_pos _ _ (by norm_num),
    mul_assoc, mul_assoc, mul_assoc, ← EReal.coe_mul, ← EReal.coe_mul, ← EReal.coe_mul]
  congr 2
  norm_num

end Moe.Spec
-- ==== Proof.Scalars.lean ====
/-
  The scalar steps both programs share, on extended reals and 32-bit words: what the float constants denote, how a
  comparison becomes a number, how a place becomes a word, and the smallest index among a row's greatest entries.
-/
module

public import proofs.«01_k».proof.Proof.Spec
public import Idealize.ShloMosaic.Lib.IdealHost

@[expose] public section

noncomputable section

namespace Moe.Scalars

open Idealize.ShloMosaic Moe.Spec

/-! ### Constants -/

/-- Minus infinity's pattern. -/
theorem bits_neg_inf : Ideal.ofBits .f32 0xFF800000#32 = ⊥ := by simp [Ideal.ofBits, Ideal.ieee]

/-- The pattern of 128. -/
theorem bits_128 : Ideal.ofBits .f32 0x43000000#32 = nat 128 := by
  simp [Ideal.ofBits, Ideal.ieee, nat]
  norm_num
  rw [← EReal.coe_mul]
  congr 1
  norm_num

/-- The pattern of 8192. -/
theorem bits_8192 : Ideal.ofBits .f32 0x46000000#32 = ((8192 : ℝ) : EReal) := by
  simp [Ideal.ofBits, Ideal.ieee]
  norm_num
  rw [← EReal.coe_mul]
  congr 1
  norm_num

/-- The pattern of 64. -/
theorem bits_64 : Ideal.ofBits .f32 0x42800000#32 = ((64 : ℝ) : EReal) := by
  simp [Ideal.ofBits, Ideal.ieee]
  norm_num
  rw [← EReal.coe_mul]
  congr 1
  norm_num

/-- The pattern of 2 to the minus twentieth. -/
theorem bits_scale : Ideal.ofBits .f32 0x35800000#32 = (((2 : ℝ) ^ (-20 : ℤ) : ℝ) : EReal) := by
  simp [Ideal.ofBits, Ideal.ieee]
  norm_num
  rw [← EReal.coe_mul]
  congr 1
  norm_num

/-! ### Words -/

/-- A small natural number's word, read signed. -/
theorem toInt_ofNat (n : ℕ) (h : n < 2 ^ 31) : (BitVec.ofNat 32 n).toInt = n := by
  rw [BitVec.toInt_eq_toNat_bmod, BitVec.toNat_ofNat, Nat.mod_eq_of_lt (by omega)]
  exact Int.bmod_eq_of_le (by omega) (by omega)

/-- Small natural numbers with the same word are equal. -/
theorem ofNat_inj (a b : ℕ) (ha : a < 2 ^ 32) (hb : b < 2 ^ 32) : BitVec.ofNat 32 a = BitVec.ofNat 32 b ↔ a = b := by
  constructor
  · intro h
    have h' := congrArg BitVec.toNat h
    rwa [BitVec.toNat_ofNat, BitVec.toNat_ofNat, Nat.mod_eq_of_lt ha, Nat.mod_eq_of_lt hb] at h'
  · rintro rfl; rfl

/-- Comparison for equality of two small natural numbers' words. -/
theorem cmpi_eq (a b : ℕ) (ha : a < 2 ^ 32) (hb : b < 2 ^ 32) :
    IntOp.cmpi .eq (BitVec.ofNat 32 a) (BitVec.ofNat 32 b) = if a = b then 1#1 else 0#1 := by
  unfold IntOp.cmpi
  dsimp only
  by_cases h : a = b
  · subst h; simp
  · rw [if_neg h, beq_eq_false_iff_ne.mpr (fun h' => h ((ofNat_inj a b ha hb).mp h'))]; rfl

/-- Signed comparison of two small natural numbers' words. -/
theorem cmpi_sle (a b : ℕ) (ha : a < 2 ^ 31) (hb : b < 2 ^ 31) :
    IntOp.cmpi .sle (BitVec.ofNat 32 a) (BitVec.ofNat 32 b) = if a ≤ b then 1#1 else 0#1 := by
  unfold IntOp.cmpi
  dsimp only
  rw [BitVec.sle, toInt_ofNat a ha, toInt_ofNat b hb]
  by_cases h : a ≤ b <;> simp [h]

/-- A truth value widened and converted to a float is the number one or zero. -/
theorem sitofp_ite (p : Prop) [Decidable p] :
    FloatOps.sitofp (F := Ideal) .f32 (BitVec.setWidth 32 (if p then 1#1 else 0#1)) = nat (if p then 1 else 0) := by
  show (((BitVec.setWidth 32 (if p then 1#1 else 0#1)).toInt : ℝ) : EReal) = _
  split <;> simp [nat]

/-- A truth value converted without sign to a float is the number one or zero. -/
theorem uitofp_ite (p : Prop) [Decidable p] :
    FloatOps.uitofp (F := Ideal) .f32 (if p then 1#1 else 0#1) = nat (if p then 1 else 0) := by
  show (((if p then 1#1 else 0#1 : BitVec 1).toNat : ℝ) : EReal) = _
  split <;> simp [nat]

/-- A natural number converted to a word. -/
theorem fptosi_nat (n : ℕ) (h : n < 2 ^ 31) : FloatOps.fptosi (F := Ideal) (φ := .f32) 32 (nat n) = BitVec.ofNat 32 n := by
  show Ideal.fptosi 32 ((n : ℝ) : EReal) = _
  rw [Ideal.fptosi, Ideal.toIntClamped_coe, if_pos (Nat.cast_nonneg n), Int.floor_natCast]
  have : max (-((2 ^ (32 - 1) : ℕ) : ℤ)) (min (((2 ^ (32 - 1) : ℕ) : ℤ) - 1) (n : ℤ)) = n := by omega
  rw [this, BitVec.ofInt_natCast]

/-! ### The smallest index of a greatest entry -/

/-- The smaller of two words, read signed. -/
theorem toInt_minsi (a b : BitVec 32) : (IntOp.minsi a b).toInt = min a.toInt b.toInt := by
  unfold IntOp.minsi
  rw [BitVec.slt_eq_decide]
  by_cases h : a.toInt < b.toInt
  · rw [if_pos (by simpa using h), min_eq_left h.le]
  · rw [if_neg (by simpa using h), min_eq_right (not_lt.mp h)]

/-- The minimum over a row of the indices of its greatest entries, all others counted as 64, is the first greatest
    expert. -/
theorem fold_minsi (r : Row) :
    (Finset.univ : Finset (Fin 64)).fold IntOp.minsi 2147483647#32
        (fun e => if r e = top r then BitVec.ofNat 32 e.val else 64#32)
      = BitVec.ofNat 32 (first r).val := by
  have hlt := (first r).isLt
  have hrest : (BitVec.ofNat 32 (first r).val).toInt
      ≤ ((Finset.univ.erase (first r)).fold IntOp.minsi 2147483647#32
          (fun e => if r e = top r then BitVec.ofNat 32 e.val else 64#32)).toInt := by
    have hmin : ∀ {x y z : BitVec 32}, x.toInt ≤ (IntOp.minsi y z).toInt ↔ x.toInt ≤ y.toInt ∧ x.toInt ≤ z.toInt := by
      intro x y z; rw [toInt_minsi, le_min_iff]
    refine (Finset.fold_op_rel_iff_and (r := fun x y : BitVec 32 => x.toInt ≤ y.toInt) hmin).mpr ⟨?_, fun e _ => ?_⟩
    · rw [toInt_ofNat _ (by omega)]
      show ((first r).val : ℤ) ≤ (2147483647#32).toInt
      have : (2147483647#32).toInt = 2147483647 := by decide
      omega
    · show _ ≤ (if r e = top r then BitVec.ofNat 32 e.val else 64#32).toInt
      rw [toInt_ofNat _ (by omega)]
      split
      · next h =>
        have := first_le r e h
        rw [toInt_ofNat _ (by omega)]
        exact_mod_cast this
      · have : (64#32).toInt = 64 := by decide
        omega
  rw [← Finset.insert_erase (Finset.mem_univ (first r)), Finset.fold_insert (Finset.notMem_erase _ _)]
  rw [if_pos (at_first r)]
  apply BitVec.eq_of_toInt_eq
  rw [toInt_minsi, min_eq_left hrest]

/-! ### Counting within a stretch of tokens -/

/-- The tokens of a stretch up to and including `j`, counted together with those before the stretch. -/
theorem count_prefix (g : ℕ → Row) (n T : ℕ) (j : Fin T) (e : Fin 64) :
    count g n e + ∑ i : Fin T, (if i.val ≤ j.val then 1 else 0) * hot (g (n + i.val)) e = count g (n + j.val + 1) e := by
  rw [show n + j.val + 1 = n + (j.val + 1) from rfl, count_add]
  congr 1
  rw [← Finset.sum_range (fun i => (if i ≤ j.val then 1 else 0) * hot (g (n + i)) e),
    ← Finset.sum_range (fun i => hot (g (n + i)) e)]
  simp only [ite_mul, one_mul, zero_mul]
  rw [← Finset.sum_filter]
  refine Finset.sum_congr (Finset.ext fun i => ?_) fun _ _ => rfl
  have := j.isLt
  simp only [Finset.mem_filter, Finset.mem_range]
  omega

/-- The place of a token from the count that includes it: at the token's own expert one less, elsewhere nothing. -/
theorem place_mul_hot (g : ℕ → Row) (n : ℕ) (e : Fin 64) :
    (nat (count g (n + 1) e) - 1) * nat (hot (g n) e) = if first (g n) = e then nat (rank g n) else 0 := by
  rw [count_succ]
  unfold hot
  split
  · next h => rw [nat_succ_sub, nat_one, mul_one, ← h]; rfl
  · rw [nat_zero, mul_zero]

/-- A sum over the experts with one entry that counts. -/
theorem sum_at_first (r : Row) (x : EReal) : (∑ e, if first r = e then x else 0) = x := by
  rw [Finset.sum_ite_eq]; simp

end Moe.Scalars
-- ==== Proof.RefFolds.lean ====
/-
  The two folds of the reference that are not sums over an axis: the index of a row's greatest entry, and the running
  sum down a column.
-/
module

public import proofs.«01_k».proof.Proof.RefRun
public import proofs.«01_k».proof.Proof.Scalars
public import Idealize.ShloMosaic.Lib.Pointwise

@[expose] public section

set_option maxRecDepth 16384

noncomputable section

namespace Moe.RefFolds

open Cert.ReferenceIdeal Cert.ReferenceIdeal.Gen Idealize.ShloMosaic Idealize.ShloMosaic.TcCoe Moe.Spec Moe.Scalars

/-! ### The index of the greatest entry -/

/-- One pair is at least as good a choice as another: a greater value, or the same value at no later an index. -/
def Wins (a b : EReal × BitVec 32) : Prop := b.1 < a.1 ∨ (b.1 = a.1 ∧ a.2.toInt ≤ b.2.toInt)

theorem Wins.refl (a : EReal × BitVec 32) : Wins a a := Or.inr ⟨rfl, le_refl _⟩

theorem Wins.trans {a b c : EReal × BitVec 32} (h : Wins a b) (h' : Wins b c) : Wins a c := by
  rcases h with h | ⟨h, h2⟩ <;> rcases h' with h' | ⟨h', h2'⟩
  · exact Or.inl (h'.trans h)
  · exact Or.inl (h' ▸ h)
  · exact Or.inl (h ▸ h')
  · exact Or.inr ⟨h'.trans h, h2.trans h2'⟩

/-- The reducer returns one of its two pairs, and that pair wins over both. -/
theorem reducer_wins (a b : EReal × BitVec 32) :
    (reducer_argmax_f32_i32 (F := Ideal) a b = a ∨ reducer_argmax_f32_i32 (F := Ideal) a b = b)
      ∧ Wins (reducer_argmax_f32_i32 (F := Ideal) a b) a ∧ Wins (reducer_argmax_f32_i32 (F := Ideal) a b) b := by
  obtain ⟨x, i⟩ := a
  obtain ⟨y, k⟩ := b
  rcases lt_trichotomy x y with h | h | h
  · have hr : reducer_argmax_f32_i32 (F := Ideal) (x, i) (y, k) = (y, k) := by
      simp [reducer_argmax_f32_i32, Ideal.cmpf_def, Ideal.cmp, IntOp.ori, IntOp.andi, Scalar.select, h.ne, not_lt.mpr h.le]
    rw [hr]
    exact ⟨Or.inr rfl, Or.inl h, Wins.refl _⟩
  · subst h
    by_cases hk : i.toInt < k.toInt
    · have hr : reducer_argmax_f32_i32 (F := Ideal) (x, i) (x, k) = (x, i) := by
        simp [reducer_argmax_f32_i32, Ideal.cmpf_def, Ideal.cmp, IntOp.ori, IntOp.andi, IntOp.cmpi, Scalar.select,
          BitVec.slt_eq_decide, hk]
      rw [hr]
      exact ⟨Or.inl rfl, Wins.refl _, Or.inr ⟨rfl, hk.le⟩⟩
    · have hr : reducer_argmax_f32_i32 (F := Ideal) (x, i) (x, k) = (x, k) := by
        simp [reducer_argmax_f32_i32, Ideal.cmpf_def, Ideal.cmp, IntOp.ori, IntOp.andi, IntOp.cmpi, Scalar.select,
          BitVec.slt_eq_decide, hk]
      rw [hr]
      exact ⟨Or.inr rfl, Or.inr ⟨rfl, not_lt.mp hk⟩, Wins.refl _⟩
  · have hr : reducer_argmax_f32_i32 (F := Ideal) (x, i) (y, k) = (x, i) := by
      simp [reducer_argmax_f32_i32, Ideal.cmpf_def, Ideal.cmp, IntOp.ori, IntOp.andi, Scalar.select, h, h.ne']
    rw [hr]
    exact ⟨Or.inl rfl, Wins.refl _, Or.inl h⟩

/-- Folding the reducer over a list of pairs returns a pair met on the way that wins over all of them. -/
theorem foldl_wins (l : List (EReal × BitVec 32)) (a : EReal × BitVec 32) :
    l.foldl (reducer_argmax_f32_i32 (F := Ideal)) a ∈ a :: l
      ∧ ∀ p ∈ a :: l, Wins (l.foldl (reducer_argmax_f32_i32 (F := Ideal)) a) p := by
  induction l generalizing a with
  | nil => exact ⟨List.mem_cons_self, fun p hp => by rw [List.mem_singleton.mp hp]; exact Wins.refl _⟩
  | cons b l ih =>
    obtain ⟨hm, hw⟩ := ih (reducer_argmax_f32_i32 (F := Ideal) a b)
    obtain ⟨hc, ha, hb⟩ := reducer_wins a b
    have hstep := hw _ List.mem_cons_self
    refine ⟨?_, fun p hp => ?_⟩
    · rcases List.mem_cons.mp hm with h | h
      · rw [List.foldl_cons, h]
        rcases hc with h' | h' <;> rw [h'] <;> simp
      · exact List.mem_cons_of_mem _ (List.mem_cons_of_mem _ h)
    · rcases List.mem_cons.mp hp with rfl | hp
      · exact hstep.trans ha
      · rcases List.mem_cons.mp hp with rfl | hp
        · exact hstep.trans hb
        · exact hw p (List.mem_cons_of_mem _ hp)

/-- The pairs a fold along the second axis meets in row `s` are the row's entries with their columns. -/
theorem mem_fiber {A B : ℕ} (h : (⟨2, ![A, B]⟩ : Shape).ReducesTo [1] ⟨1, ![A]⟩) (l : (⟨2, ![A, B]⟩ : Shape).Idx → EReal)
    (y : (⟨2, ![A, B]⟩ : Shape).Idx → BitVec 32) (s : Fin A) (p : EReal × BitVec 32) :
    p ∈ Host.argReduceFiber l y h (ix1 s) ↔ ∃ e : Fin B, p = (l (ix2 s e), y (ix2 s e)) := by
  unfold Host.argReduceFiber
  simp only [List.mem_map, List.mem_filter, List.mem_finRange, true_and, decide_eq_true_eq]
  constructor
  · rintro ⟨n, hn, rfl⟩
    obtain ⟨e, he⟩ := (Shape.ReducesTo.fiber_r2_a1 h (ix1 s) _).mp hn
    exact ⟨e, by rw [← he]; rfl⟩
  · rintro ⟨e, rfl⟩
    refine ⟨(⟨2, ![A, B]⟩ : Shape).rowMajor (ix2 s e), ?_, ?_⟩
    · rw [Equiv.symm_apply_apply]
      exact (Shape.ReducesTo.fiber_r2_a1 h (ix1 s) _).mpr ⟨e, rfl⟩
    · rw [Equiv.symm_apply_apply]

/-- The fold over row `s`, from minus infinity at column 0, ends at the first greatest expert. -/
theorem fold_row {A : ℕ} (h : (⟨2, ![A, 64]⟩ : Shape).ReducesTo [1] ⟨1, ![A]⟩) (l : (⟨2, ![A, 64]⟩ : Shape).Idx → EReal)
    (y : (⟨2, ![A, 64]⟩ : Shape).Idx → BitVec 32) (hy : ∀ s e, y (ix2 s e) = BitVec.ofNat 32 e.val) (s : Fin A) :
    ((Host.argReduceFiber l y h (ix1 s)).foldl (reducer_argmax_f32_i32 (F := Ideal)) ((⊥ : EReal), 0#32)).2
      = BitVec.ofNat 32 (first fun e => l (ix2 s e)).val := by
  obtain ⟨hm, hw⟩ := foldl_wins (Host.argReduceFiber l y h (ix1 s)) ((⊥ : EReal), 0#32)
  generalize (Host.argReduceFiber l y h (ix1 s)).foldl (reducer_argmax_f32_i32 (F := Ideal)) ((⊥ : EReal), 0#32) = R at hm hw ⊢
  have hrow : ∀ e : Fin 64, Wins R (l (ix2 s e), BitVec.ofNat 32 e.val) := fun e =>
    hw _ (List.mem_cons_of_mem _ ((mem_fiber h l y s _).mpr ⟨e, by rw [hy]⟩))
  rcases List.mem_cons.mp hm with hR | hR
  · have hbot : ∀ e : Fin 64, l (ix2 s e) = ⊥ := by
      intro e
      have := hrow e
      rw [hR] at this
      rcases this with h' | ⟨h', -⟩
      · exact absurd h' not_lt_bot
      · exact h'
    have htop : top (fun e => l (ix2 s e)) = ⊥ := by
      obtain ⟨e, he⟩ := exists_eq_top fun e => l (ix2 s e)
      rw [← he]; exact hbot e
    rw [hR, first_unique (fun e => l (ix2 s e)) 0 (by rw [htop]; exact hbot 0) fun e' _ => Fin.zero_le e']
    rfl
  · obtain ⟨e, he⟩ := (mem_fiber h l y s R).mp hR
    rw [hy] at he
    subst he
    have hle : ∀ e', l (ix2 s e') ≤ l (ix2 s e) := fun e' => by
      rcases hrow e' with h' | ⟨h', -⟩
      · exact h'.le
      · exact le_of_eq h'
    have htop : l (ix2 s e) = top (fun e => l (ix2 s e)) := by
      obtain ⟨e', he'⟩ := exists_eq_top fun e => l (ix2 s e)
      exact le_antisymm (le_top (fun e => l (ix2 s e)) e) (he' ▸ hle e')
    rw [first_unique (fun e => l (ix2 s e)) e htop fun e' he' => ?_]
    have h1 := e.isLt
    have h2 := e'.isLt
    rcases hrow e' with h' | ⟨-, h'⟩
    · exact absurd h' (by show ¬ l (ix2 s e') < l (ix2 s e); rw [htop]; exact not_lt.mpr (le_of_eq he'.symm))
    · have h'' : (BitVec.ofNat 32 e.val).toInt ≤ (BitVec.ofNat 32 e'.val).toInt := h'
      rw [toInt_ofNat _ (by omega), toInt_ofNat _ (by omega)] at h''
      exact Fin.le_def.mpr (by exact_mod_cast h'')

/-- The reference's choice in row `s` is the first greatest expert. -/
theorem chosen_apply (l : FVec Ideal S8192x64 .f32) (s : Fin 8192) :
    RefRun.chosenT (F := Ideal) l (ix1 s) = BitVec.ofNat 32 (first fun e => l (ix2 s e)).val := by
  unfold RefRun.chosenT
  dsimp only
  rw [Ideal.argReduce_eq_reduce2, Host.reduce2_eq_foldl_fiber]
  have hinit : ((constant (F := Ideal) S_ .f32 4286578688#32) (Shape.Idx.first h_S_), (constantI S_ 32 0#32) (Shape.Idx.first h_S_))
      = ((⊥ : EReal), 0#32) := Prod.ext bits_neg_inf rfl
  rw [hinit]
  exact fold_row reducesTo_S8192x64_S8192_d1 l _ (fun _ _ => rfl) s

/-! ### The running sum -/

/-- A left fold that adds is a sum. -/
theorem foldl_add (N : ℕ) (f : Fin N → EReal) : (List.finRange N).foldl (fun r n => r + f n) 0 = ∑ n, f n := by
  have h : ∀ (l : List (Fin N)) (z : EReal), l.foldl (fun r n => r + f n) z = z + (l.map f).sum := by
    intro l
    induction l with
    | nil => intro z; simp
    | cons a l ih => intro z; rw [List.foldl_cons, ih, List.map_cons, List.sum_cons, add_assoc]
  rw [h, zero_add, ← List.ofFn_eq_map, List.sum_ofFn]

/-- A window of `R` positions that ends at position `s` picks out the first `s + 1` terms. -/
theorem sum_shift {R Rm1 : ℕ} (hR : Rm1 + 1 = R) (f : ℕ → EReal) (s : ℕ) (hs : s < R) :
    ∑ a ∈ Finset.range R, (if Rm1 ≤ s + a then f (s + a - Rm1) else 0) = ∑ i ∈ Finset.range (s + 1), f i := by
  rw [← Finset.sum_filter]
  refine Finset.sum_nbij' (fun a => s + a - Rm1) (fun i => i + Rm1 - s) ?_ ?_ ?_ ?_ fun _ _ => rfl
  all_goals
    intro a ha
    simp only [Finset.mem_filter, Finset.mem_range] at ha ⊢
    omega

/-- The positions a running sum's window visits, at column `e` and row `s`: the padding counts nothing. -/
def windowTerm {R Rm1 C : ℕ} (mk : (⟨2, ![R, C]⟩ : Shape).Idx → EReal) (s : Fin R) (e : Fin C)
    (i : (⟨2, ![R, 1]⟩ : Shape).Idx) : EReal :=
  if hin : ∀ a : Fin 2, (![Rm1, 0] : Fin 2 → ℕ) a ≤ (ix2 s e a).val * (![1, 1] : Fin 2 → ℕ) a + (i a).val
      ∧ (ix2 s e a).val * (![1, 1] : Fin 2 → ℕ) a + (i a).val - (![Rm1, 0] : Fin 2 → ℕ) a < (⟨2, ![R, C]⟩ : Shape).size a
    then mk (fun a => ⟨(ix2 s e a).val * (![1, 1] : Fin 2 → ℕ) a + (i a).val - (![Rm1, 0] : Fin 2 → ℕ) a, (hin a).2⟩) else 0

/-- A running sum down the columns of a matrix, written as a window of the whole height padded above: entry `(s, e)` is
    the sum of column `e` up to and including row `s`. -/
theorem running_sum {R Rm1 C : ℕ} (hR : Rm1 + 1 = R)
    (h : (⟨2, ![R, C]⟩ : Shape).ReduceWindows (![R, 1] : Fin 2 → ℕ) ![1, 1] ![Rm1, 0] ![0, 0] ⟨2, ![R, C]⟩)
    (mk : (⟨2, ![R, C]⟩ : Shape).Idx → EReal) (f : ℕ → EReal) (e : Fin C) (hf : ∀ i : Fin R, mk (ix2 i e) = f i.val) (s : Fin R) :
    Ideal.hostReduceWindowAdd (![R, 1] : Fin 2 → ℕ) ![1, 1] ![Rm1, 0] ![0, 0] h mk 0 (ix2 s e)
      = ∑ i ∈ Finset.range (s.val + 1), f i := by
  have hs := s.isLt
  have he := e.isLt
  have hfold : Ideal.hostReduceWindowAdd (![R, 1] : Fin 2 → ℕ) ![1, 1] ![Rm1, 0] ![0, 0] h mk 0 (ix2 s e)
      = (List.finRange (⟨2, ![R, 1]⟩ : Shape).numel).foldl
          (fun r n => r + windowTerm (Rm1 := Rm1) mk s e ((Shape.rowMajor ⟨2, ![R, 1]⟩).symm n)) 0 := by
    unfold Ideal.hostReduceWindowAdd Host.reduceWindow
    dsimp only
    refine congrArg (fun F => List.foldl F 0 (List.finRange _)) (funext fun r => funext fun n => ?_)
    refine congrArg (r + ·) ?_
    unfold windowTerm
    split
    · next hin => rw [dif_pos (by exact hin)]; rfl
    · next hin => rw [dif_neg (by exact hin)]
  rw [hfold, foldl_add]
  rw [Equiv.sum_comp (Shape.rowMajor ⟨2, ![R, 1]⟩).symm (windowTerm (Rm1 := Rm1) mk s e), sum_idx2,
    ← sum_shift hR f s.val hs, Finset.sum_range]
  refine Finset.sum_congr rfl fun a _ => ?_
  have ha := a.isLt
  rw [Fin.sum_univ_one]
  unfold windowTerm
  by_cases hle : Rm1 ≤ s.val + a.val
  · rw [if_pos hle, dif_pos (fun b => by
      match b with
      | ⟨0, _⟩ =>
        show Rm1 ≤ s.val * 1 + a.val ∧ s.val * 1 + a.val - Rm1 < R
        omega
      | ⟨1, _⟩ =>
        show 0 ≤ e.val * 1 + 0 ∧ e.val * 1 + 0 - 0 < C
        omega)]
    refine Eq.trans (congrArg mk (funext fun b => Fin.ext ?_)) (hf ⟨s.val + a.val - Rm1, by omega⟩)
    match b with
    | ⟨0, _⟩ =>
      show s.val * 1 + a.val - Rm1 = s.val + a.val - Rm1
      omega
    | ⟨1, _⟩ =>
      show e.val * 1 + 0 - 0 = e.val
      omega
  · rw [if_neg hle, dif_neg (fun hin => hle (by
      have h0 := (hin (0 : Fin 2)).1
      change Rm1 ≤ s.val * 1 + a.val at h0
      omega))]

end Moe.RefFolds
-- ==== Proof.Gates.lean ====
/-
  The gates of every token, of the two arguments both programs take.
-/
module

public import proofs.«01_k».proof.Proof.Spec
public import Idealize.ShloMosaic.Lib.Pointwise

@[expose] public section

noncomputable section

namespace Moe.Gates

open Idealize.ShloMosaic Moe.Spec

/-- The gates of every token: the softmax of its row of logits. -/
def gatesOf (x : (⟨2, ![8192, 4096]⟩ : Shape).Idx → EReal) (w : (⟨2, ![4096, 64]⟩ : Shape).Idx → EReal) (s : ℕ) : Row :=
  soft fun e => ∑ k : Fin 4096, (if h : s < 8192 then x (ix2 ⟨s, h⟩ k) else 0) * w (ix2 k e)

/-- The gates of a token of the arguments. -/
theorem gatesOf_val (x : (⟨2, ![8192, 4096]⟩ : Shape).Idx → EReal) (w : (⟨2, ![4096, 64]⟩ : Shape).Idx → EReal) (s : Fin 8192) :
    gatesOf x w s.val = soft fun e => ∑ k : Fin 4096, x (ix2 s k) * w (ix2 k e) := by
  unfold gatesOf
  simp only [dif_pos s.isLt]

/-- No token's greatest gate is zero. -/
theorem gatesOf_top_ne_zero (x : (⟨2, ![8192, 4096]⟩ : Shape).Idx → EReal) (w : (⟨2, ![4096, 64]⟩ : Shape).Idx → EReal) (s : ℕ) :
    top (gatesOf x w s) ≠ 0 := top_soft_ne_zero _

end Moe.Gates
-- ==== Proof.RefValue.lean ====
/-
  What the reference's results are, read at an index on extended reals: its gates are the softmax of the logits, its
  mask marks each token's first greatest gate, and its loss, combine and dispatch tensors are those of the mathematics.
-/
module

public import proofs.«01_k».proof.Proof.RefFolds
public import proofs.«01_k».proof.Proof.Gates

@[expose] public section

set_option maxRecDepth 16384

noncomputable section

namespace Moe.RefValue

open Cert.ReferenceIdeal Cert.ReferenceIdeal.Gen Idealize.ShloMosaic Idealize.ShloMosaic.TcCoe Moe.Spec Moe.Scalars Moe.RefRun
  Moe.RefFolds Moe.Gates

/-! ### The gates -/

/-- Each row's greatest logit. -/
theorem topT_apply (l : Ten Ideal S8192x64 .f32) (s : Fin 8192) : topT l (ix1 s) = top fun e => l (ix2 s e) := by
  unfold topT
  pointwise
  rw [bits_neg_inf, max_eq_right bot_le]
  rfl

/-- The exponentials of the logits less the row's greatest. -/
theorem expsT_apply (l : Ten Ideal S8192x64 .f32) (s : Fin 8192) (e : Fin 64) :
    expsT l (ix2 s e) = Ideal.exp (l (ix2 s e) - top fun e' => l (ix2 s e')) := by
  unfold expsT rows
  pointwise
  rw [topT_apply]

/-- The sum of a row. -/
theorem rowSumT_apply (l : Ten Ideal S8192x64 .f32) (s : Fin 8192) : rowSumT l (ix1 s) = ∑ e : Fin 64, l (ix2 s e) := by
  unfold rowSumT
  pointwise

/-- The sum of a column. -/
theorem colSumT_apply (l : Ten Ideal S8192x64 .f32) (e : Fin 64) : colSumT l (ix1 e) = ∑ s : Fin 8192, l (ix2 s e) := by
  unfold colSumT
  pointwise

/-- The reference's gates are the softmax of each row. -/
theorem gatesT_apply (l : Ten Ideal S8192x64 .f32) (s : Fin 8192) (e : Fin 64) :
    gatesT l (ix2 s e) = soft (fun e' => l (ix2 s e')) e := by
  unfold gatesT rows
  pointwise
  rw [rowSumT_apply]
  simp only [expsT_apply]
  rfl

/-- The logits. -/
theorem logitsT_apply (x : Ten Ideal S8192x4096 .f32) (w : Ten Ideal S4096x64 .f32) (s : Fin 8192) (e : Fin 64) :
    logitsT x w (ix2 s e) = ∑ k : Fin 4096, x (ix2 s k) * w (ix2 k e) := by
  unfold logitsT
  pointwise

/-- The reference's gates in the words of the mathematics. -/
theorem gates_apply (x : Ten Ideal S8192x4096 .f32) (w : Ten Ideal S4096x64 .f32) (s : Fin 8192) (e : Fin 64) :
    gatesT (logitsT x w) (ix2 s e) = gatesOf x w s.val e := by
  rw [gatesT_apply, gatesOf_val]
  simp only [logitsT_apply]

/-- The mask is one at each token's first greatest gate and zero elsewhere. -/
theorem mask_apply (l : Ten Ideal S8192x64 .f32) (s : Fin 8192) (e : Fin 64) :
    hotT (F := Ideal) (chosenT l) (ix2 s e) = nat (hot (fun e' => l (ix2 s e')) e) := by
  unfold hotT rows
  pointwise
  have h1 := e.isLt
  have h2 := (first fun e' => l (ix2 s e')).isLt
  rw [chosen_apply, cmpi_eq _ _ (by omega) (by omega), uitofp_ite]
  congr 1
  unfold hot
  simp only [Fin.ext_iff]

/-! ### The stages after the mask -/

/-- The host's windowed sum, with windows that end at their own position, is the running sum down a column. -/
theorem window_apply {R Rm1 C : ℕ} (hR : Rm1 + 1 = R)
    (h : (⟨2, ![R, C]⟩ : Shape).ReduceWindows (![R, 1] : Fin 2 → ℕ) ![1, 1] ![Rm1, 0] ![0, 0] ⟨2, ![R, C]⟩)
    (hu : 0 < S_.numel) (mk : FVec Ideal ⟨2, ![R, C]⟩ .f32) (v : FVec Ideal S_ .f32) (hv : v (Shape.Idx.first hu) = (0 : EReal))
    (f : ℕ → EReal) (e : Fin C) (hf : ∀ i : Fin R, mk (ix2 i e) = f i.val) (s : Fin R) :
    Host.reduceWindowAdd (F := Ideal) (φ := .f32) (![R, 1] : Fin 2 → ℕ) ![1, 1] ![Rm1, 0] ![0, 0] mk v h hu (ix2 s e)
      = ∑ i ∈ Finset.range (s.val + 1), f i := by
  show Ideal.hostReduceWindowAdd (![R, 1] : Fin 2 → ℕ) ![1, 1] ![Rm1, 0] ![0, 0] h mk (v (Shape.Idx.first hu)) (ix2 s e) = _
  rw [hv]
  exact running_sum hR h mk f e hf s

section Stages
variable (gt mk : Ten Ideal S8192x64 .f32) (g : ℕ → Row)

/-- The two tensors hold the gates and the mask of the rows `g`. -/
structure Reads : Prop where
  gate : ∀ (s : Fin 8192) (e : Fin 64), gt (ix2 s e) = g s.val e
  mask : ∀ (s : Fin 8192) (e : Fin 64), mk (ix2 s e) = nat (hot (g s.val) e)

variable {gt mk g} (H : Reads gt mk g)
include H

/-- The running count less one. -/
theorem placeT_apply (s : Fin 8192) (e : Fin 64) : placeT mk (ix2 s e) = nat (count g (s.val + 1) e) - 1 := by
  have hv : (broadcastInDim S_ ![] bcast_S_S_ (constant (F := Ideal) S_ .f32 0x00000000#32) : FVec Ideal S_ .f32)
      (Shape.Idx.first h_S_) = (0 : EReal) := Ideal.ofBits_zero_f32
  have hw := window_apply (R := 8192) (Rm1 := 8191) (C := 64) rfl reduceWindows_S8192x64_S8192x64_w8192s1p8191_0_w1s1p0_0 h_S_
    mk _ hv (fun i => nat (hot (g i) e)) e (fun i => H.mask i e) s
  have h1 : (fill64 (F := Ideal) 0x3F800000#32 : FVec Ideal S8192x64 .f32) (ix2 s e) = (1 : EReal) := Ideal.ofBits_one_f32
  rw [Spec.count, nat_sum]
  unfold placeT subf
  exact congrArg₂ (fun a b : EReal => a - b) hw h1

/-- The mask of the tokens that stay below the capacity. -/
theorem keptT_apply (s : Fin 8192) (e : Fin 64) :
    keptT mk (ix2 s e) = nat (if first (g s.val) = e ∧ rank g s.val < 128 then 1 else 0) := by
  unfold keptT fill64
  pointwise
  rw [placeT_apply H, H.mask, bits_128]
  by_cases he : first (g s.val) = e
  · have hc : count g (s.val + 1) e = rank g s.val + 1 := by
      rw [count_succ, hot, if_pos he, ← he]; rfl
    rw [hc, nat_succ_sub]
    simp only [nat_lt, hot, he, true_and, if_true, nat_one, one_mul]
    by_cases hr : rank g s.val < 128
    · simp only [hr, decide_true, if_true]
      exact uitofp_ite True
    · simp only [hr, decide_false, if_false]
      exact uitofp_ite False
  · simp only [hot, he, false_and, if_false, nat_zero, zero_mul]

/-- The slot of each kept token, and zero for the others. -/
theorem slotT_apply (s : Fin 8192) :
    slotT mk (ix1 s) = BitVec.ofNat 32 (if rank g s.val < 128 then rank g s.val else 0) := by
  unfold slotT
  pointwise
  have hterm : ∀ e : Fin 64, (mulf (F := Ideal) (placeT mk) (keptT mk) : FVec Ideal S8192x64 .f32) (ix2 s e)
      = if first (g s.val) = e then nat (if rank g s.val < 128 then rank g s.val else 0) else 0 := by
    intro e
    show placeT mk (ix2 s e) * keptT mk (ix2 s e) = _
    rw [placeT_apply H, keptT_apply H]
    have h := place_mul_hot g s.val e
    by_cases he : first (g s.val) = e <;> by_cases hr : rank g s.val < 128
    · simp only [hot, he, if_true, true_and, hr] at h ⊢; exact h
    · simp [he, hr]
    · simp [he]
    · simp [he]
  rw [rowSumT_apply]
  simp only [hterm]
  rw [sum_at_first, fptosi_nat _ (by split <;> omega)]

/-- The gate of a kept token at its expert. -/
theorem weightT_apply (s : Fin 8192) (e : Fin 64) :
    weightT gt mk (ix2 s e) = if first (g s.val) = e ∧ rank g s.val < 128 then top (g s.val) else 0 := by
  unfold weightT rows
  pointwise
  have hterm : ∀ e : Fin 64, (mulf (F := Ideal) gt mk : FVec Ideal S8192x64 .f32) (ix2 s e) = if first (g s.val) = e then top (g s.val) else 0 := by
    intro e
    show gt (ix2 s e) * mk (ix2 s e) = _
    rw [H.gate, H.mask]
    unfold hot
    by_cases he : first (g s.val) = e
    · rw [if_pos he, if_pos he, nat_one, mul_one, ← at_first (g s.val), he]
    · rw [if_neg he, if_neg he, nat_zero, mul_zero]
  rw [rowSumT_apply, keptT_apply H]
  simp only [hterm]
  rw [sum_at_first]
  split <;> simp

/-- The combine tensor. -/
theorem combineT_apply (s : Fin 8192) (e : Fin 64) (p : Fin 128) : combineT gt mk (ix3 s e p) = comb g s.val e p := by
  have hp := p.isLt
  have hslot : slotHotT (F := Ideal) (slotT mk) (ix2 s p)
      = nat (if (if rank g s.val < 128 then rank g s.val else 0) = p.val then 1 else 0) := by
    unfold slotHotT
    pointwise
    rw [slotT_apply H, cmpi_eq _ _ (by split <;> omega) (by omega), uitofp_ite]
  unfold combineT
  pointwise
  rw [hslot, weightT_apply H]
  unfold comb
  by_cases he : first (g s.val) = e <;> by_cases hr : rank g s.val < 128
  · simp only [he, hr, true_and, if_true]
    split <;> simp
  · have : rank g s.val ≠ p.val := by omega
    simp [hr, this]
  · simp [he]
  · simp [he]

/-- The dispatch tensor, where no token's greatest gate is zero. -/
theorem dispatchT_apply (hne : ∀ n, top (g n) ≠ 0) (s : Fin 8192) (e : Fin 64) (p : Fin 128) :
    dispatchT (combineT gt mk) (ix3 s e p) = disp g s.val e p := by
  show BitVec.ofBool (decide (combineT gt mk (ix3 s e p) ≠ Ideal.ofBits .f32 0#32)) = _
  rw [combineT_apply H, Ideal.ofBits_zero_f32]
  unfold comb disp
  split
  · rw [decide_eq_true (hne _)]; rfl
  · rw [decide_eq_false (not_not.mpr rfl)]; rfl

/-- The loss. -/
theorem lossT_apply (i : (⟨0, ![]⟩ : Shape).Idx) : lossT gt mk i = loss g := by
  obtain rfl : i = ix0 := funext fun a => a.elim0
  have hg : ∀ e : Fin 64, colMeanT gt (ix1 e) = Ideal.div (mass g 8192 e) ((8192 : ℝ) : EReal) := by
    intro e
    unfold colMeanT
    pointwise
    rw [colSumT_apply, bits_8192, mass, Finset.sum_range]
    simp only [H.gate]
  have hm : ∀ e : Fin 64, colMeanT mk (ix1 e) = Ideal.div (nat (count g 8192 e)) ((8192 : ℝ) : EReal) := by
    intro e
    unfold colMeanT
    pointwise
    rw [colSumT_apply, bits_8192, Spec.count, nat_sum, Finset.sum_range]
    simp only [H.mask]
  unfold lossT
  pointwise
  simp only [hg, hm]
  rw [bits_64]
  exact loss_of_means _ _

end Stages

/-- The reference's gates and mask are those of its arguments. -/
theorem reads (m : (ℓ : Loc nD τ sig) → Buf (Elt Ideal) ℓ) (c : Dev nD) :
    Reads (gatesAt (F := Ideal) m c) (maskAt (F := Ideal) m c)
      (gatesOf (m ((c.tc : Thread nD τ).loc main_arg0)) (m ((c.tc : Thread nD τ).loc main_arg1))) := by
  refine ⟨fun s e => gates_apply _ _ s e, fun s e => ?_⟩
  refine (mask_apply _ s e).trans ?_
  congr 2
  funext e'
  exact gates_apply _ _ s e'

end Moe.RefValue
-- ==== Proof.Body.lean ====
/-
  What one grid point leaves behind. In each of the three cases of the body (the first point, a middle point, the last
  point) every output block and both carried rows are the body's own named values of the point's input blocks and of
  the rows the point before left: the loads and stores all cover their whole buffers.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Moe.Body

open Cert.KernelIdeal Cert.KernelIdeal.Gen Idealize.ShloMosaic Idealize.ShloMosaic.TcCoe Idealize.SL.Sem

variable {F : FTy → Type} [FloatOps F]

/-- Offsets all zero, in two axes. -/
theorem zero2 : (![0, 0] : Fin 2 → Nat) = fun _ => 0 := funext fun a => by fin_cases a <;> rfl

/-- Offsets all zero, in three axes. -/
theorem zero3 : (![0, 0, 0] : Fin 3 → Nat) = fun _ => 0 := funext fun a => by fin_cases a <;> rfl

section
variable (c : Dev nD) (i : grid0.Coords) (a1 : Memref sig .tc .vmem S512x4096 .f32) (h1 : a1.IsWhole)
  (a2 : Memref sig .tc .vmem S4096x64 .f32) (h2 : a2.IsWhole) (a3 : Memref sig .tc .vmem S512x64x128 .f32) (h3 : a3.IsWhole)
  (a4 : Memref sig .tc .vmem S1x1x512 .i32) (h4 : a4.IsWhole) (a5 : Memref sig .tc .vmem S1x1x512 .i32) (h5 : a5.IsWhole)
  (a6 : Memref sig .tc .smem S1x1 .f32) (h6 : a6.IsWhole) (a7 : Memref sig .tc .vmem S1x64 .f32) (h7 : a7.IsWhole)
  (a8 : Memref sig .tc .vmem S1x64 .f32) (h8 : a8.IsWhole)
  (x0 : Vec F S512x4096 .f32) (x1 : Vec F S4096x64 .f32) (s0 s1 : Vec F S1x64 .f32)

/-- The first point's combine block. -/
theorem comb_A (hc0 : cond0_0 i) (hc1 : ¬cond0_1 i) :
    out0_A_2 c i a1 h1 a2 h2 a3 h3 a4 h4 a5 h5 a6 h6 a7 h7 a8 h8 hc0 hc1 x0 x1
      = k0_pay14 (k0_pay6 x0 x1) (k0_pay7 x0 x1) (k0_pay10 x0 x1 k0_pay3) := by
  unfold out0_A_2
  rw [View.read_writes_eq_canon _ _ _ (cover0_A_2 c i a1 h1 a2 h2 a3 h3 a4 h4 a5 h5 a6 h6 a7 h7 a8 h8 hc0 hc1 x0 x1)]
  unfold kernelRun0_A
  dsimp only
  sl_unfold_words
  rw [View.canon_unit_zero zero3]
  simp only [View.readAt_eq_ld, View.readCov_unit_zero (S := S1x64) _ zero2, h1.read_unread, h2.read_unread, View.ld_unit_zero (S := S512x4096) zero2, View.ld_unit_zero (S := S4096x64) zero2, View.ld_unit_zero (S := S1x64) zero2]

/-- The first point's expert block. -/
theorem idx_A (hc0 : cond0_0 i) (hc1 : ¬cond0_1 i) :
    out0_A_3 c i a1 h1 a2 h2 a3 h3 a4 h4 a5 h5 a6 h6 a7 h7 a8 h8 hc0 hc1 x0 x1
      = k0_pay15 (k0_pay7 x0 x1) (k0_pay10 x0 x1 k0_pay3) := by
  unfold out0_A_3
  rw [View.read_writes_eq_canon _ _ _ (cover0_A_3 c i a1 h1 a2 h2 a3 h3 a4 h4 a5 h5 a6 h6 a7 h7 a8 h8 hc0 hc1 x0 x1)]
  unfold kernelRun0_A
  dsimp only
  sl_unfold_words
  rw [View.canon_unit_zero zero3]
  simp only [View.readAt_eq_ld, View.readCov_unit_zero (S := S1x64) _ zero2, h1.read_unread, h2.read_unread, View.ld_unit_zero (S := S512x4096) zero2, View.ld_unit_zero (S := S4096x64) zero2, View.ld_unit_zero (S := S1x64) zero2]

/-- The first point's slot block. -/
theorem loc_A (hc0 : cond0_0 i) (hc1 : ¬cond0_1 i) :
    out0_A_4 c i a1 h1 a2 h2 a3 h3 a4 h4 a5 h5 a6 h6 a7 h7 a8 h8 hc0 hc1 x0 x1
      = k0_pay16 (k0_pay10 x0 x1 k0_pay3) := by
  unfold out0_A_4
  rw [View.read_writes_eq_canon _ _ _ (cover0_A_4 c i a1 h1 a2 h2 a3 h3 a4 h4 a5 h5 a6 h6 a7 h7 a8 h8 hc0 hc1 x0 x1)]
  unfold kernelRun0_A
  dsimp only
  sl_unfold_words
  rw [View.canon_unit_zero zero3]
  simp only [View.readAt_eq_ld, View.readCov_unit_zero (S := S1x64) _ zero2, h1.read_unread, h2.read_unread, View.ld_unit_zero (S := S512x4096) zero2, View.ld_unit_zero (S := S4096x64) zero2, View.ld_unit_zero (S := S1x64) zero2]

/-- The first point's count row. -/
theorem cnt_A (hc0 : cond0_0 i) (hc1 : ¬cond0_1 i) :
    sout0_A_0 c i a1 h1 a2 h2 a3 h3 a4 h4 a5 h5 a6 h6 a7 h7 a8 h8 hc0 hc1 x0 x1
      = k0_pay17 (k0_pay9 x0 x1) k0_pay3 := by
  unfold sout0_A_0
  rw [View.read_writes_eq_canon _ _ _ (scover0_A_0 c i a1 h1 a2 h2 a3 h3 a4 h4 a5 h5 a6 h6 a7 h7 a8 h8 hc0 hc1 x0 x1)]
  unfold kernelRun0_A
  dsimp only
  sl_unfold_words
  rw [View.canon_cons_unit_zero (S := S1x64) zero2]
  simp only [View.readAt_eq_ld, View.readCov_unit_zero (S := S1x64) _ zero2, h1.read_unread, h2.read_unread, View.ld_unit_zero (S := S512x4096) zero2, View.ld_unit_zero (S := S4096x64) zero2, View.ld_unit_zero (S := S1x64) zero2]

/-- The first point's gate-sum row. -/
theorem me_A (hc0 : cond0_0 i) (hc1 : ¬cond0_1 i) :
    sout0_A_1 c i a1 h1 a2 h2 a3 h3 a4 h4 a5 h5 a6 h6 a7 h7 a8 h8 hc0 hc1 x0 x1
      = k0_pay1 (k0_pay5 x0 x1) k0_pay4 := by
  unfold sout0_A_1
  rw [View.read_writes_eq_canon _ _ _ (scover0_A_1 c i a1 h1 a2 h2 a3 h3 a4 h4 a5 h5 a6 h6 a7 h7 a8 h8 hc0 hc1 x0 x1)]
  unfold kernelRun0_A
  dsimp only
  sl_unfold_words
  rw [View.canon_cons_unit_zero (S := S1x64) zero2]
  simp only [View.readAt_eq_ld, View.readCov_unit_zero (S := S1x64) _ zero2, h1.read_unread, h2.read_unread, View.ld_unit_zero (S := S512x4096) zero2, View.ld_unit_zero (S := S4096x64) zero2, View.ld_unit_zero (S := S1x64) zero2]

/-- The middle point's combine block. -/
theorem comb_B (hc0 : ¬cond0_0 i) (hc1 : ¬cond0_1 i) :
    out0_B_2 c i a1 h1 a2 h2 a3 h3 a4 h4 a5 h5 a6 h6 a7 h7 a8 h8 hc0 hc1 x0 x1 s0 s1
      = k0_pay14 (k0_pay6 x0 x1) (k0_pay7 x0 x1) (k0_pay10 x0 x1 s0) := by
  unfold out0_B_2
  rw [View.read_writes_eq_canon _ _ _ (cover0_B_2 c i a1 h1 a2 h2 a3 h3 a4 h4 a5 h5 a6 h6 a7 h7 a8 h8 hc0 hc1 x0 x1 s0 s1)]
  unfold kernelRun0_B
  dsimp only
  sl_unfold_words
  rw [View.canon_unit_zero zero3]
  simp only [View.readAt_eq_ld, h1.read_unread, h2.read_unread, h7.read_unread, h8.read_unread, View.ld_unit_zero (S := S512x4096) zero2, View.ld_unit_zero (S := S4096x64) zero2, View.ld_unit_zero (S := S1x64) zero2]

/-- The middle point's expert block. -/
theorem idx_B (hc0 : ¬cond0_0 i) (hc1 : ¬cond0_1 i) :
    out0_B_3 c i a1 h1 a2 h2 a3 h3 a4 h4 a5 h5 a6 h6 a7 h7 a8 h8 hc0 hc1 x0 x1 s0 s1
      = k0_pay15 (k0_pay7 x0 x1) (k0_pay10 x0 x1 s0) := by
  unfold out0_B_3
  rw [View.read_writes_eq_canon _ _ _ (cover0_B_3 c i a1 h1 a2 h2 a3 h3 a4 h4 a5 h5 a6 h6 a7 h7 a8 h8 hc0 hc1 x0 x1 s0 s1)]
  unfold kernelRun0_B
  dsimp only
  sl_unfold_words
  rw [View.canon_unit_zero zero3]
  simp only [View.readAt_eq_ld, h1.read_unread, h2.read_unread, h7.read_unread, h8.read_unread, View.ld_unit_zero (S := S512x4096) zero2, View.ld_unit_zero (S := S4096x64) zero2, View.ld_unit_zero (S := S1x64) zero2]

/-- The middle point's slot block. -/
theorem loc_B (hc0 : ¬cond0_0 i) (hc1 : ¬cond0_1 i) :
    out0_B_4 c i a1 h1 a2 h2 a3 h3 a4 h4 a5 h5 a6 h6 a7 h7 a8 h8 hc0 hc1 x0 x1 s0 s1
      = k0_pay16 (k0_pay10 x0 x1 s0) := by
  unfold out0_B_4
  rw [View.read_writes_eq_canon _ _ _ (cover0_B_4 c i a1 h1 a2 h2 a3 h3 a4 h4 a5 h5 a6 h6 a7 h7 a8 h8 hc0 hc1 x0 x1 s0 s1)]
  unfold kernelRun0_B
  dsimp only
  sl_unfold_words
  rw [View.canon_unit_zero zero3]
  simp only [View.readAt_eq_ld, h1.read_unread, h2.read_unread, h7.read_unread, h8.read_unread, View.ld_unit_zero (S := S512x4096) zero2, View.ld_unit_zero (S := S4096x64) zero2, View.ld_unit_zero (S := S1x64) zero2]

/-- The middle point's count row. -/
theorem cnt_B (hc0 : ¬cond0_0 i) (hc1 : ¬cond0_1 i) :
    sout0_B_0 c i a1 h1 a2 h2 a3 h3 a4 h4 a5 h5 a6 h6 a7 h7 a8 h8 hc0 hc1 x0 x1 s0 s1
      = k0_pay17 (k0_pay9 x0 x1) s0 := by
  unfold sout0_B_0
  rw [View.read_writes_eq_canon _ _ _ (scover0_B_0 c i a1 h1 a2 h2 a3 h3 a4 h4 a5 h5 a6 h6 a7 h7 a8 h8 hc0 hc1 x0 x1 s0 s1)]
  unfold kernelRun0_B
  dsimp only
  sl_unfold_words
  rw [View.canon_unit_zero zero2]
  simp only [View.readAt_eq_ld, h1.read_unread, h2.read_unread, h7.read_unread, h8.read_unread, View.ld_unit_zero (S := S512x4096) zero2, View.ld_unit_zero (S := S4096x64) zero2, View.ld_unit_zero (S := S1x64) zero2]

/-- The middle point's gate-sum row. -/
theorem me_B (hc0 : ¬cond0_0 i) (hc1 : ¬cond0_1 i) :
    sout0_B_1 c i a1 h1 a2 h2 a3 h3 a4 h4 a5 h5 a6 h6 a7 h7 a8 h8 hc0 hc1 x0 x1 s0 s1
      = k0_pay1 (k0_pay5 x0 x1) s1 := by
  unfold sout0_B_1
  rw [View.read_writes_eq_canon _ _ _ (scover0_B_1 c i a1 h1 a2 h2 a3 h3 a4 h4 a5 h5 a6 h6 a7 h7 a8 h8 hc0 hc1 x0 x1 s0 s1)]
  unfold kernelRun0_B
  dsimp only
  sl_unfold_words
  rw [View.canon_unit_zero zero2]
  simp only [View.readAt_eq_ld, h1.read_unread, h2.read_unread, h7.read_unread, h8.read_unread, View.ld_unit_zero (S := S512x4096) zero2, View.ld_unit_zero (S := S4096x64) zero2, View.ld_unit_zero (S := S1x64) zero2]

/-- The last point's combine block. -/
theorem comb_C (hc0 : ¬cond0_0 i) (hc1 : cond0_1 i) :
    out0_C_2 c i a1 h1 a2 h2 a3 h3 a4 h4 a5 h5 a6 h6 a7 h7 a8 h8 hc0 hc1 x0 x1 s0 s1
      = k0_pay14 (k0_pay6 x0 x1) (k0_pay7 x0 x1) (k0_pay10 x0 x1 s0) := by
  unfold out0_C_2
  rw [View.read_writes_eq_canon _ _ _ (cover0_C_2 c i a1 h1 a2 h2 a3 h3 a4 h4 a5 h5 a6 h6 a7 h7 a8 h8 hc0 hc1 x0 x1 s0 s1)]
  unfold kernelRun0_C
  dsimp only
  sl_unfold_words
  rw [View.canon_unit_zero zero3]
  simp only [View.readAt_eq_ld, View.readCov_unit_zero (S := S1x64) _ zero2, h1.read_unread, h2.read_unread, h7.read_unread, h8.read_unread, View.ld_unit_zero (S := S512x4096) zero2, View.ld_unit_zero (S := S4096x64) zero2, View.ld_unit_zero (S := S1x64) zero2]

/-- The last point's expert block. -/
theorem idx_C (hc0 : ¬cond0_0 i) (hc1 : cond0_1 i) :
    out0_C_3 c i a1 h1 a2 h2 a3 h3 a4 h4 a5 h5 a6 h6 a7 h7 a8 h8 hc0 hc1 x0 x1 s0 s1
      = k0_pay15 (k0_pay7 x0 x1) (k0_pay10 x0 x1 s0) := by
  unfold out0_C_3
  rw [View.read_writes_eq_canon _ _ _ (cover0_C_3 c i a1 h1 a2 h2 a3 h3 a4 h4 a5 h5 a6 h6 a7 h7 a8 h8 hc0 hc1 x0 x1 s0 s1)]
  unfold kernelRun0_C
  dsimp only
  sl_unfold_words
  rw [View.canon_unit_zero zero3]
  simp only [View.readAt_eq_ld, View.readCov_unit_zero (S := S1x64) _ zero2, h1.read_unread, h2.read_unread, h7.read_unread, h8.read_unread, View.ld_unit_zero (S := S512x4096) zero2, View.ld_unit_zero (S := S4096x64) zero2, View.ld_unit_zero (S := S1x64) zero2]

/-- The last point's slot block. -/
theorem loc_C (hc0 : ¬cond0_0 i) (hc1 : cond0_1 i) :
    out0_C_4 c i a1 h1 a2 h2 a3 h3 a4 h4 a5 h5 a6 h6 a7 h7 a8 h8 hc0 hc1 x0 x1 s0 s1
      = k0_pay16 (k0_pay10 x0 x1 s0) := by
  unfold out0_C_4
  rw [View.read_writes_eq_canon _ _ _ (cover0_C_4 c i a1 h1 a2 h2 a3 h3 a4 h4 a5 h5 a6 h6 a7 h7 a8 h8 hc0 hc1 x0 x1 s0 s1)]
  unfold kernelRun0_C
  dsimp only
  sl_unfold_words
  rw [View.canon_unit_zero zero3]
  simp only [View.readAt_eq_ld, View.readCov_unit_zero (S := S1x64) _ zero2, h1.read_unread, h2.read_unread, h7.read_unread, h8.read_unread, View.ld_unit_zero (S := S512x4096) zero2, View.ld_unit_zero (S := S4096x64) zero2, View.ld_unit_zero (S := S1x64) zero2]

/-- The last point's count row. -/
theorem cnt_C (hc0 : ¬cond0_0 i) (hc1 : cond0_1 i) :
    sout0_C_0 c i a1 h1 a2 h2 a3 h3 a4 h4 a5 h5 a6 h6 a7 h7 a8 h8 hc0 hc1 x0 x1 s0 s1
      = k0_pay17 (k0_pay9 x0 x1) s0 := by
  unfold sout0_C_0
  rw [View.read_writes_eq_canon _ _ _ (scover0_C_0 c i a1 h1 a2 h2 a3 h3 a4 h4 a5 h5 a6 h6 a7 h7 a8 h8 hc0 hc1 x0 x1 s0 s1)]
  unfold kernelRun0_C
  dsimp only
  sl_unfold_words
  rw [View.canon_unit_zero zero2]
  simp only [View.readAt_eq_ld, View.readCov_unit_zero (S := S1x64) _ zero2, h1.read_unread, h2.read_unread, h7.read_unread, h8.read_unread, View.ld_unit_zero (S := S512x4096) zero2, View.ld_unit_zero (S := S4096x64) zero2, View.ld_unit_zero (S := S1x64) zero2]

/-- The last point's gate-sum row. -/
theorem me_C (hc0 : ¬cond0_0 i) (hc1 : cond0_1 i) :
    sout0_C_1 c i a1 h1 a2 h2 a3 h3 a4 h4 a5 h5 a6 h6 a7 h7 a8 h8 hc0 hc1 x0 x1 s0 s1
      = k0_pay1 (k0_pay5 x0 x1) s1 := by
  unfold sout0_C_1
  rw [View.read_writes_eq_canon _ _ _ (scover0_C_1 c i a1 h1 a2 h2 a3 h3 a4 h4 a5 h5 a6 h6 a7 h7 a8 h8 hc0 hc1 x0 x1 s0 s1)]
  unfold kernelRun0_C
  dsimp only
  sl_unfold_words
  rw [View.canon_unit_zero zero2]
  simp only [View.readAt_eq_ld, View.readCov_unit_zero (S := S1x64) _ zero2, h1.read_unread, h2.read_unread, h7.read_unread, h8.read_unread, View.ld_unit_zero (S := S512x4096) zero2, View.ld_unit_zero (S := S4096x64) zero2, View.ld_unit_zero (S := S1x64) zero2]

/-- The last point's loss. -/
theorem loss_C (hc0 : ¬cond0_0 i) (hc1 : cond0_1 i) :
    out0_C_5 c i a1 h1 a2 h2 a3 h3 a4 h4 a5 h5 a6 h6 a7 h7 a8 h8 hc0 hc1 x0 x1 s0 s1
      = fun _ => k0_pay2 (k0_pay1 (k0_pay5 x0 x1) s1) (k0_pay17 (k0_pay9 x0 x1) s0) := by
  unfold out0_C_5
  rw [View.read_writes_eq_canon _ _ _ (cover0_C_5 c i a1 h1 a2 h2 a3 h3 a4 h4 a5 h5 a6 h6 a7 h7 a8 h8 hc0 hc1 x0 x1 s0 s1)]
  unfold kernelRun0_C
  dsimp only
  sl_unfold_words
  rw [View.canon_unit_zero zero2]
  simp only [View.readAt_eq_ld, View.readCov_unit_zero (S := S1x64) _ zero2, h1.read_unread, h2.read_unread, h7.read_unread, h8.read_unread, View.ld_unit_zero (S := S512x4096) zero2, View.ld_unit_zero (S := S4096x64) zero2, View.ld_unit_zero (S := S1x64) zero2]
  rfl

end

variable (m : (ℓ : Loc nD τ sig) → Buf (Elt F) ℓ)

/-- The count row that point `n` finds: the zero row at the first point, then what the point before left. -/
def cntIn (c : Dev nD) : (n : ℕ) → n < cfg0.N → Vec F S1x64 .f32
  | 0, _ => k0_pay3
  | n + 1, h => (outsAt0 m c n (Nat.lt_of_succ_lt h)).2.2.2.2.1

/-- The gate-sum row that point `n` finds: the zero row at the first point, then what the point before left. -/
def meIn (c : Dev nD) : (n : ℕ) → n < cfg0.N → Vec F S1x64 .f32
  | 0, _ => k0_pay4
  | n + 1, h => (outsAt0 m c n (Nat.lt_of_succ_lt h)).2.2.2.2.2

/-- After the first point the count row found is the point before's. -/
theorem cntIn_pos (c : Dev nD) (t : Fin cfg0.N) (h : ¬t.val % 16 = 0) :
    cntIn m c t.val t.isLt = (outsAt0 m c (t.val - 1) (Nat.lt_of_le_of_lt (Nat.sub_le _ _) t.isLt)).2.2.2.2.1 := by
  obtain ⟨n, hn⟩ := t
  cases n with
  | zero => exact absurd (Nat.zero_mod 16) h
  | succ n => rfl

/-- After the first point the gate-sum row found is the point before's. -/
theorem meIn_pos (c : Dev nD) (t : Fin cfg0.N) (h : ¬t.val % 16 = 0) :
    meIn m c t.val t.isLt = (outsAt0 m c (t.val - 1) (Nat.lt_of_le_of_lt (Nat.sub_le _ _) t.isLt)).2.2.2.2.2 := by
  obtain ⟨n, hn⟩ := t
  cases n with
  | zero => exact absurd (Nat.zero_mod 16) h
  | succ n => rfl

/-- At the first point the rows found are the zero rows. -/
theorem rowsIn_zero (c : Dev nD) (t : Fin cfg0.N) (h : t.val % 16 = 0) :
    cntIn m c t.val t.isLt = k0_pay3 ∧ meIn m c t.val t.isLt = k0_pay4 := by
  have hN : t.val < 16 := lt_of_lt_of_eq t.isLt (show cfg0.N = 16 from N_0)
  obtain ⟨n, hn⟩ := t
  obtain rfl : n = 0 := by simp only at h hN; omega
  exact ⟨rfl, rfl⟩

/-- Every point's combine block, of its two input blocks and the row it finds. -/
theorem comb_at (c : Dev nD) (t : Fin cfg0.N) :
    (outsAt0 m c t.val t.isLt).1 = k0_pay14 (k0_pay6 (iblk m c 0 t) (iblk m c 1 t)) (k0_pay7 (iblk m c 0 t) (iblk m c 1 t)) (k0_pay10 (iblk m c 0 t) (iblk m c 1 t) (cntIn m c t.val t.isLt)) := by
  have hN : t.val < 16 := lt_of_lt_of_eq t.isLt (show cfg0.N = 16 from N_0)
  by_cases h0 : t.val % 16 = 0
  · rw [outsAt0_A m c t h0 (by omega)]
    dsimp only
    rw [comb_A, (rowsIn_zero m c t h0).1]
  · rw [cntIn_pos m c t h0]
    by_cases h1 : t.val % 16 = 15
    · rw [outsAt0_C m c t h0 h1]
      dsimp only
      rw [comb_C]
    · rw [outsAt0_B m c t h0 h1]
      dsimp only
      rw [comb_B]

/-- Every point's expert block, of its two input blocks and the row it finds. -/
theorem idx_at (c : Dev nD) (t : Fin cfg0.N) :
    (outsAt0 m c t.val t.isLt).2.1 = k0_pay15 (k0_pay7 (iblk m c 0 t) (iblk m c 1 t)) (k0_pay10 (iblk m c 0 t) (iblk m c 1 t) (cntIn m c t.val t.isLt)) := by
  have hN : t.val < 16 := lt_of_lt_of_eq t.isLt (show cfg0.N = 16 from N_0)
  by_cases h0 : t.val % 16 = 0
  · rw [outsAt0_A m c t h0 (by omega)]
    dsimp only
    rw [idx_A, (rowsIn_zero m c t h0).1]
  · rw [cntIn_pos m c t h0]
    by_cases h1 : t.val % 16 = 15
    · rw [outsAt0_C m c t h0 h1]
      dsimp only
      rw [idx_C]
    · rw [outsAt0_B m c t h0 h1]
      dsimp only
      rw [idx_B]

/-- Every point's slot block, of its two input blocks and the row it finds. -/
theorem loc_at (c : Dev nD) (t : Fin cfg0.N) :
    (outsAt0 m c t.val t.isLt).2.2.1 = k0_pay16 (k0_pay10 (iblk m c 0 t) (iblk m c 1 t) (cntIn m c t.val t.isLt)) := by
  have hN : t.val < 16 := lt_of_lt_of_eq t.isLt (show cfg0.N = 16 from N_0)
  by_cases h0 : t.val % 16 = 0
  · rw [outsAt0_A m c t h0 (by omega)]
    dsimp only
    rw [loc_A, (rowsIn_zero m c t h0).1]
  · rw [cntIn_pos m c t h0]
    by_cases h1 : t.val % 16 = 15
    · rw [outsAt0_C m c t h0 h1]
      dsimp only
      rw [loc_C]
    · rw [outsAt0_B m c t h0 h1]
      dsimp only
      rw [loc_B]

/-- Every point's count row, of its two input blocks and the row it finds. -/
theorem cnt_at (c : Dev nD) (t : Fin cfg0.N) :
    (outsAt0 m c t.val t.isLt).2.2.2.2.1 = k0_pay17 (k0_pay9 (iblk m c 0 t) (iblk m c 1 t)) (cntIn m c t.val t.isLt) := by
  have hN : t.val < 16 := lt_of_lt_of_eq t.isLt (show cfg0.N = 16 from N_0)
  by_cases h0 : t.val % 16 = 0
  · rw [outsAt0_A m c t h0 (by omega)]
    dsimp only
    rw [cnt_A, (rowsIn_zero m c t h0).1]
  · rw [cntIn_pos m c t h0]
    by_cases h1 : t.val % 16 = 15
    · rw [outsAt0_C m c t h0 h1]
      dsimp only
      rw [cnt_C]
    · rw [outsAt0_B m c t h0 h1]
      dsimp only
      rw [cnt_B]

/-- Every point's gate-sum row, of its two input blocks and the row it finds. -/
theorem me_at (c : Dev nD) (t : Fin cfg0.N) :
    (outsAt0 m c t.val t.isLt).2.2.2.2.2 = k0_pay1 (k0_pay5 (iblk m c 0 t) (iblk m c 1 t)) (meIn m c t.val t.isLt) := by
  have hN : t.val < 16 := lt_of_lt_of_eq t.isLt (show cfg0.N = 16 from N_0)
  by_cases h0 : t.val % 16 = 0
  · rw [outsAt0_A m c t h0 (by omega)]
    dsimp only
    rw [me_A, (rowsIn_zero m c t h0).2]
  · rw [meIn_pos m c t h0]
    by_cases h1 : t.val % 16 = 15
    · rw [outsAt0_C m c t h0 h1]
      dsimp only
      rw [me_C]
    · rw [outsAt0_B m c t h0 h1]
      dsimp only
      rw [me_B]

/-- The last point's loss is the product of the two rows it leaves, summed and scaled. -/
theorem loss_at (c : Dev nD) (t : Fin cfg0.N) (h1 : t.val % 16 = 15) :
    (outsAt0 m c t.val t.isLt).2.2.2.1
      = fun _ => k0_pay2 (outsAt0 m c t.val t.isLt).2.2.2.2.2 (outsAt0 m c t.val t.isLt).2.2.2.2.1 := by
  have h0 : ¬t.val % 16 = 0 := by omega
  rw [me_at, cnt_at, meIn_pos m c t h0, cntIn_pos m c t h0, outsAt0_C m c t h0 h1]
  dsimp only
  rw [loss_C]

end Moe.Body

end
-- ==== Proof.PayValue.lean ====
/-
  What the body's named values are, read at an index on extended reals. The first part reads each value from the blocks
  it is computed from; the second, for a block of tokens starting at `n` whose carried rows are the counts and sums of
  the tokens before `n`, says each in the words of the mathematics.
-/
module

public import proofs.«01_k».proof.Proof.Body
public import proofs.«01_k».proof.Proof.Scalars
public import Idealize.ShloMosaic.Lib.Pointwise

@[expose] public section

set_option maxRecDepth 16384

noncomputable section

namespace Moe.PayValue

open Cert.KernelIdeal Cert.KernelIdeal.Gen Idealize.ShloMosaic Idealize.ShloMosaic.TcCoe Idealize.SL.Sem Moe.Spec
  Moe.Scalars

section Block
variable (x : Vec Ideal S512x4096 .f32) (w : Vec Ideal S4096x64 .f32)

/-- The gates of the block's token `j`. -/
def gate (j : Fin 512) : Row := soft fun e => ∑ k : Fin 4096, x (ix2 j k) * w (ix2 k e)

/-- The block's gates. -/
theorem gates_apply (j : Fin 512) (e : Fin 64) : k0_pay5 (F := Ideal) x w (ix2 j e) = gate x w j e := by
  unfold k0_pay5
  pointwise
  rw [bits_neg_inf]
  rfl

/-- The greatest gate of each token. -/
theorem top_apply (j : Fin 512) : k0_pay6 (F := Ideal) x w (ix2 j 0) = top (gate x w j) := by
  unfold k0_pay6
  pointwise
  rw [bits_neg_inf]
  simp only [gates_apply]
  rfl

/-- The expert each token goes to. -/
theorem pick_apply (j : Fin 512) : k0_pay7 (F := Ideal) x w (ix2 j 0) = BitVec.ofNat 32 (first (gate x w j)).val := by
  unfold k0_pay7
  pointwise
  simp only [gates_apply, top_apply]
  exact fold_minsi _

/-- One at the expert a token goes to, zero elsewhere. -/
theorem hot_apply (j : Fin 512) (e : Fin 64) : k0_pay8 (F := Ideal) x w (ix2 j e) = nat (hot (gate x w j) e) := by
  unfold k0_pay8
  pointwise
  have h1 := e.isLt
  have h2 := (first (gate x w j)).isLt
  rw [pick_apply, cmpi_eq _ _ (by omega) (by omega), sitofp_ite]
  congr 1
  unfold hot
  by_cases h : first (gate x w j) = e
  · rw [if_pos h, if_pos (by rw [h])]
  · rw [if_neg h, if_neg (fun h' => h (Fin.ext h'.symm))]

/-- How many of the block's tokens up to and including `j` go to expert `e`. -/
theorem prefix_apply (j : Fin 512) (e : Fin 64) : k0_pay9 (F := Ideal) x w (ix2 j e)
    = nat (∑ i : Fin 512, (if i.val ≤ j.val then 1 else 0) * hot (gate x w i) e) := by
  unfold k0_pay9
  pointwise
  rw [nat_sum]
  refine Finset.sum_congr rfl fun i _ => ?_
  have h1 := i.isLt
  have h2 := j.isLt
  rw [hot_apply, cmpi_sle _ _ (by omega) (by omega), sitofp_ite, nat_mul]

end Block

section Stretch
variable (x : Vec Ideal S512x4096 .f32) (w : Vec Ideal S4096x64 .f32) (v : Vec Ideal S1x64 .f32) (g : ℕ → Row) (n : ℕ)

/-- The block holds the tokens from `n` on, and the carried row the counts before `n`. -/
structure Holds : Prop where
  gate : ∀ j : Fin 512, gate x w j = g (n + j.val)
  count : ∀ e : Fin 64, v (ix2 0 e) = nat (count g n e)
  small : n ≤ 8192

variable {x w v g n} (H : Holds x w v g n)
include H

/-- Each token's place, written at its own expert. -/
theorem place_apply (j : Fin 512) (e : Fin 64) : k0_pay10 (F := Ideal) x w v (ix2 j e)
    = if first (g (n + j.val)) = e then nat (rank g (n + j.val)) else 0 := by
  unfold k0_pay10
  pointwise
  rw [prefix_apply, hot_apply, H.count, ← place_mul_hot, ← count_prefix g n 512 j e, nat_add, H.gate]
  simp only [H.gate]
  rw [sub_eq_add_neg, sub_eq_add_neg, add_assoc, add_comm (-1) _, ← add_assoc, add_comm (nat (∑ _, _))]

/-- Each token's place. -/
theorem rank_apply (j : Fin 512) : k0_pay11 (F := Ideal) (k0_pay10 x w v) (ix2 j 0) = nat (rank g (n + j.val)) := by
  unfold k0_pay11
  pointwise
  simp only [place_apply H]
  exact sum_at_first _ _

/-- A token's place is a small number. -/
theorem rank_small (j : Fin 512) : rank g (n + j.val) < 8704 := by
  have := rank_le g (n + j.val)
  have := H.small
  have := j.isLt
  omega

/-- Each token's place as a word. -/
theorem slot_apply (j : Fin 512) :
    k0_pay12 (F := Ideal) (k0_pay10 x w v) (ix2 j 0) = BitVec.ofNat 32 (rank g (n + j.val)) := by
  unfold k0_pay12
  pointwise
  have := rank_small H j
  rw [rank_apply H, fptosi_nat _ (by omega)]

/-- Each token's expert, or 64 when its place is beyond the capacity. -/
theorem expert_apply (j : Fin 512) : k0_pay13 (F := Ideal) (k0_pay7 x w) (k0_pay10 x w v) (ix2 j 0)
    = BitVec.ofNat 32 (if rank g (n + j.val) < 128 then (first (g (n + j.val))).val else 64) := by
  unfold k0_pay13
  pointwise
  rw [rank_apply H, bits_128, pick_apply, H.gate]
  simp only [nat_lt]
  split <;> rfl

/-- The combine block. -/
theorem comb_apply (j : Fin 512) (e : Fin 64) (p : Fin 128) :
    k0_pay14 (F := Ideal) (k0_pay6 x w) (k0_pay7 x w) (k0_pay10 x w v) (ix3 j e p) = comb g (n + j.val) e p := by
  unfold k0_pay14
  pointwise
  rw [expert_apply H, slot_apply H, top_apply, H.gate]
  have hr := rank_small H j
  have he := e.isLt
  have hp := p.isLt
  have hf := (first (g (n + j.val))).isLt
  unfold IntOp.addi IntOp.muli
  rw [show (128#32 : BitVec 32) = BitVec.ofNat 32 128 from rfl, ← BitVec.ofNat_mul, ← BitVec.ofNat_mul, ← BitVec.ofNat_add,
    ← BitVec.ofNat_add, cmpi_eq _ _ (by omega) (by split <;> omega)]
  unfold Scalar.select comb
  have hiff : (e.val * 128 + p.val = (if rank g (n + j.val) < 128 then (first (g (n + j.val))).val else 64) * 128
      + rank g (n + j.val)) ↔ (first (g (n + j.val)) = e ∧ rank g (n + j.val) = p.val) := by
    rw [Fin.ext_iff]
    split <;> omega
  by_cases h : first (g (n + j.val)) = e ∧ rank g (n + j.val) = p.val
  · rw [if_pos (hiff.mpr h), if_pos h]; rfl
  · rw [if_neg (fun h' => h (hiff.mp h')), if_neg h]; rfl

/-- The block of experts handed to the host. -/
theorem idx_apply (j : Fin 512) : k0_pay15 (F := Ideal) (k0_pay7 x w) (k0_pay10 x w v) (ix3 0 0 j)
    = BitVec.ofNat 32 (if rank g (n + j.val) < 128 then (first (g (n + j.val))).val else 64) := by
  unfold k0_pay15
  pointwise
  exact expert_apply H j

/-- The block of places handed to the host. -/
theorem loc_apply (j : Fin 512) :
    k0_pay16 (F := Ideal) (k0_pay10 x w v) (ix3 0 0 j) = BitVec.ofNat 32 (rank g (n + j.val)) := by
  unfold k0_pay16
  pointwise
  exact slot_apply H j

/-- The counts left behind are those before the next block. -/
theorem cnt_apply (e : Fin 64) : k0_pay17 (F := Ideal) (k0_pay9 x w) v (ix2 0 e) = nat (count g (n + 512) e) := by
  unfold k0_pay17
  pointwise
  rw [prefix_apply, H.count, ← nat_add]
  simp only [H.gate]
  exact congrArg nat (count_prefix g n 512 511 e)

/-- The gate sums left behind are those before the next block. -/
theorem me_apply (u : Vec Ideal S1x64 .f32) (hu : ∀ e : Fin 64, u (ix2 0 e) = mass g n e) (e : Fin 64) :
    k0_pay1 (F := Ideal) (k0_pay5 x w) u (ix2 0 e) = mass g (n + 512) e := by
  unfold k0_pay1
  pointwise
  rw [hu, mass_add]
  simp only [gates_apply, H.gate]

end Stretch

/-- The loss from the two finished rows. -/
theorem loss_apply (u v : Vec Ideal S1x64 .f32) (g : ℕ → Row) (hu : ∀ e : Fin 64, u (ix2 0 e) = mass g 8192 e)
    (hv : ∀ e : Fin 64, v (ix2 0 e) = nat (count g 8192 e)) : k0_pay2 (F := Ideal) u v = loss g := by
  unfold k0_pay2
  pointwise
  rw [bits_scale]
  simp only [hu, hv, Finset.univ_unique, Finset.sum_singleton]
  rfl

/-- The count row starts at zero. -/
theorem cnt_init (e : Fin 64) : k0_pay3 (F := Ideal) (ix2 0 e) = 0 := by
  unfold k0_pay3
  pointwise

/-- The gate-sum row starts at zero. -/
theorem me_init (e : Fin 64) : k0_pay4 (F := Ideal) (ix2 0 e) = 0 := by
  unfold k0_pay4
  pointwise

end Moe.PayValue
-- ==== Proof.Arrays.lean ====
/-
  What the kernel leaves in its four result arrays. Point `t` works on the tokens from `512 * t` on, and by induction on
  the point the two carried rows hold the counts and the gate sums of the tokens before it; so each point writes its
  tokens' part of one function of the arguments, and the points' blocks cover the arrays.
-/
module

public import proofs.«01_k».proof.Proof.PayValue
public import proofs.«01_k».proof.Proof.Gates

@[expose] public section

set_option maxRecDepth 16384

noncomputable section

namespace Moe.Arrays

open Cert.KernelIdeal Cert.KernelIdeal.Gen Idealize.ShloMosaic Idealize.ShloMosaic.TcCoe Idealize.SL.Sem Moe.Spec Moe.Scalars
  Moe.Gates Moe.Body Moe.PayValue
open Idealize.ShloMosaic.Pipeline (Dat)

variable (m : (ℓ : Loc nD τ sig) → Buf (Elt Ideal) ℓ) (c : Dev nD)

/-- The gates of the kernel's two arguments. -/
def g : ℕ → Row := gatesOf (m ((c : Thread nD τ).loc main_arg0)) (m ((c : Thread nD τ).loc main_arg1))

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 ∧ win0_2.index t 2 = 0 := by decide +kernel
theorem index3 : ∀ t : Fin grid0.N, win0_3.index t 0 = t.val ∧ win0_3.index t 1 = 0 ∧ win0_3.index t 2 = 0 := by decide +kernel
theorem index4 : ∀ t : Fin grid0.N, win0_4.index t 0 = t.val ∧ win0_4.index t 1 = 0 ∧ win0_4.index t 2 = 0 := by decide +kernel
theorem index5 : ∀ t : Fin grid0.N, win0_5.index t 0 = 0 ∧ win0_5.index t 1 = 0 := by decide +kernel

/-- There are sixteen points. -/
theorem point_lt (t : Fin cfg0.N) : t.val < 16 := lt_of_lt_of_eq t.isLt (show cfg0.N = 16 from N_0)

/-- A token of a point's block. -/
def token (t : Fin cfg0.N) (j : Fin 512) : Fin 8192 := ⟨512 * t.val + j.val, by have := point_lt t; have := j.isLt; omega⟩

/-! ### The input blocks -/

/-- Point `t`'s block of `x` is its rows from `512 * t` on. -/
theorem x_block (t : Fin cfg0.N) (j : Fin 512) (k : Fin 4096) :
    (iblk m c 0 t : Vec Ideal S512x4096 .f32) (ix2 j k) = m ((c : Thread nD τ).loc main_arg0) (ix2 (token t j) k) := by
  have hi := index0 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * j.val = 512 * t.val + j.val; rw [hi.1]; omega
  | ⟨1, _⟩ => show win0_0.index t 1 * 4096 + 1 * k.val = k.val; rw [hi.2]; omega

/-- Every point's block of `W` is all of it. -/
theorem w_block (t : Fin cfg0.N) (k : Fin 4096) (e : Fin 64) :
    (iblk m c 1 t : Vec Ideal S4096x64 .f32) (ix2 k e) = m ((c : Thread nD τ).loc main_arg1) (ix2 k e) := by
  have hi := index1 t
  unfold iblk
  rw [View.read_apply]
  show V m c main_arg1 _ = m (c.tc.loc main_arg1) _
  rw [V_main_arg1]
  congr 1
  funext a
  apply Fin.ext
  match a with
  | ⟨0, _⟩ => show win0_1.index t 0 * 4096 + 1 * k.val = k.val; rw [hi.1]; omega
  | ⟨1, _⟩ => show win0_1.index t 1 * 64 + 1 * e.val = e.val; rw [hi.2]; omega

/-- The gates of a token of a point's block. -/
theorem gate_block (t : Fin cfg0.N) (j : Fin 512) : gate (iblk m c 0 t) (iblk m c 1 t) j = g m c (512 * t.val + j.val) := by
  refine Eq.trans ?_ (gatesOf_val _ _ (token t j)).symm
  unfold gate
  simp only [x_block, w_block]

/-! ### The carried rows -/

/-- Before point `n`, the carried rows hold the counts and gate sums of the tokens before `512 * n`. -/
theorem carried : ∀ (n : ℕ) (h : n < cfg0.N),
    (∀ e : Fin 64, cntIn m c n h (ix2 0 e) = nat (count (g m c) (512 * n) e))
      ∧ (∀ e : Fin 64, meIn m c n h (ix2 0 e) = mass (g m c) (512 * n) e)
  | 0, h => ⟨fun e => by rw [mul_zero, count_zero, nat_zero]; exact cnt_init e, fun e => by rw [mul_zero, mass_zero]; exact me_init e⟩
  | n + 1, h => by
    have hn : n < cfg0.N := Nat.lt_of_succ_lt h
    obtain ⟨h1, h2⟩ := carried n hn
    have hlt := point_lt ⟨n, hn⟩
    have H : Holds (iblk m c 0 ⟨n, hn⟩) (iblk m c 1 ⟨n, hn⟩) (cntIn m c n hn) (g m c) (512 * n) :=
      ⟨fun j => gate_block m c ⟨n, hn⟩ j, h1, by dsimp only at hlt; omega⟩
    constructor
    · intro e
      show (outsAt0 m c n _).2.2.2.2.1 (ix2 0 e) = _
      rw [cnt_at m c ⟨n, hn⟩, cnt_apply H e]
      rfl
    · intro e
      show (outsAt0 m c n _).2.2.2.2.2 (ix2 0 e) = _
      rw [me_at m c ⟨n, hn⟩, me_apply H _ h2 e]
      rfl

/-- So each point's block and the rows it finds are the tokens from `512 * t` on. -/
theorem holds (t : Fin cfg0.N) :
    Holds (iblk m c 0 t) (iblk m c 1 t) (cntIn m c t.val t.isLt) (g m c) (512 * t.val) :=
  ⟨fun j => gate_block m c t j, (carried m c t.val t.isLt).1, by have := point_lt t; omega⟩

/-! ### The result arrays -/

/-- The combine array. -/
def combA : Buf (Elt Ideal) ((c : Thread nD τ).loc main_v0_1) := fun i : S8192x64x128.Idx => comb (g m c) (i 0).val (i 1) (i 2)

/-- The expert array: a kept token's expert, and 64 for a dropped one. -/
def idxA : Buf (Elt Ideal) ((c : Thread nD τ).loc main_call0_v0_1) := fun i : S16x1x512.Idx =>
  BitVec.ofNat 32 (if rank (g m c) (512 * (i 0).val + (i 2).val) < 128 then (first (g m c (512 * (i 0).val + (i 2).val))).val else 64)

/-- The place array. -/
def locA : Buf (Elt Ideal) ((c : Thread nD τ).loc main_call0_v0_2) := fun i : S16x1x512.Idx =>
  BitVec.ofNat 32 (rank (g m c) (512 * (i 0).val + (i 2).val))

/-- The loss array. -/
def lossA : Buf (Elt Ideal) ((c : Thread nD τ).loc main_call0_v0_3) := fun _ : S1x1.Idx => loss (g m c)

/-- What a point writes to the combine array. -/
theorem flushed_comb (t : Fin cfg0.N) (_ : (cfg0.win 2).flush t = true) :
    (dats m 0 c).flushed 2 t = ((cfg0.win 2).blk t).view.read (Elt Ideal) (combA m c) := by
  have hi := index2 t
  show (cfg0.win 2).cut (grid0.coords t) ((dats m 0 c).after 2 t) = _
  rw [after0_2, comb_at]
  refine funext fun (j : S512x64x128.Idx) => ?_
  rw [View.read_apply]
  have h0 : win0_2.index t 0 * 512 + 1 * (j 0).val = 512 * t.val + (j 0).val := by rw [hi.1]; omega
  have h1 : win0_2.index t 1 * 64 + 1 * (j 1).val = (j 1).val := by rw [hi.2.1]; omega
  have h2 : win0_2.index t 2 * 128 + 1 * (j 2).val = (j 2).val := by rw [hi.2.2]; omega
  show k0_pay14 (F := Ideal) _ _ _ j = comb (g m c) (win0_2.index t 0 * 512 + 1 * (j 0).val)
    ⟨win0_2.index t 1 * 64 + 1 * (j 1).val, _⟩ ⟨win0_2.index t 2 * 128 + 1 * (j 2).val, _⟩
  simp only [h0, h1, h2]
  exact (congrArg _ (ValueIdx.eq_ix3 j)).trans (comb_apply (holds m c t) (j 0) (j 1) (j 2))

/-- A row block's first coordinate is zero. -/
theorem row_zero (j : S1x1x512.Idx) : (j 0).val = 0 := by
  have h : (j 0).val < 1 := (j 0).isLt
  omega

/-- A row block's index is its last coordinate. -/
theorem row_idx (j : S1x1x512.Idx) : j = ix3 0 0 (j 2) := by
  have h1 : (j 1).val < 1 := (j 1).isLt
  funext a
  apply Fin.ext
  match a with
  | ⟨0, _⟩ => exact row_zero j
  | ⟨1, _⟩ => show (j 1).val = 0; omega
  | ⟨2, _⟩ => rfl

/-- What a point writes to the expert array. -/
theorem flushed_idx (t : Fin cfg0.N) (_ : (cfg0.win 3).flush t = true) :
    (dats m 0 c).flushed 3 t = ((cfg0.win 3).blk t).view.read (Elt Ideal) (idxA m c) := by
  have hi := index3 t
  show (cfg0.win 3).cut (grid0.coords t) ((dats m 0 c).after 3 t) = _
  rw [after0_3, idx_at]
  refine funext fun (j : S1x1x512.Idx) => ?_
  rw [View.read_apply]
  have hj0 := row_zero j
  have h0 : win0_3.index t 0 * 1 + 1 * (j 0).val = t.val := by rw [hi.1, hj0]; omega
  have h2 : win0_3.index t 2 * 512 + 1 * (j 2).val = (j 2).val := by rw [hi.2.2]; omega
  show k0_pay15 (F := Ideal) _ _ j = BitVec.ofNat 32 (if rank (g m c) (512 * (win0_3.index t 0 * 1 + 1 * (j 0).val)
      + (win0_3.index t 2 * 512 + 1 * (j 2).val)) < 128 then (first (g m c (512 * (win0_3.index t 0 * 1 + 1 * (j 0).val)
      + (win0_3.index t 2 * 512 + 1 * (j 2).val)))).val else 64)
  rw [h0, h2]
  exact (congrArg _ (row_idx j)).trans (idx_apply (holds m c t) (j 2))

/-- What a point writes to the place array. -/
theorem flushed_loc (t : Fin cfg0.N) (_ : (cfg0.win 4).flush t = true) :
    (dats m 0 c).flushed 4 t = ((cfg0.win 4).blk t).view.read (Elt Ideal) (locA m c) := by
  have hi := index4 t
  show (cfg0.win 4).cut (grid0.coords t) ((dats m 0 c).after 4 t) = _
  rw [after0_4, loc_at]
  refine funext fun (j : S1x1x512.Idx) => ?_
  rw [View.read_apply]
  have hj0 := row_zero j
  have h0 : win0_4.index t 0 * 1 + 1 * (j 0).val = t.val := by rw [hi.1, hj0]; omega
  have h2 : win0_4.index t 2 * 512 + 1 * (j 2).val = (j 2).val := by rw [hi.2.2]; omega
  show k0_pay16 (F := Ideal) _ j = BitVec.ofNat 32 (rank (g m c) (512 * (win0_4.index t 0 * 1 + 1 * (j 0).val)
      + (win0_4.index t 2 * 512 + 1 * (j 2).val)))
  rw [h0, h2]
  exact (congrArg _ (row_idx j)).trans (loc_apply (holds m c t) (j 2))

/-- What the last point writes to the loss array. -/
theorem flushed_loss (t : Fin cfg0.N) (hf : (cfg0.win 5).flush t = true) :
    (dats m 0 c).flushed 5 t = ((cfg0.win 5).blk t).view.read (Elt Ideal) (lossA m c) := by
  have ht := (flush0_5 t).mp hf
  have ht' : t.val = 15 := by have := point_lt t; omega
  show (cfg0.win 5).cut (grid0.coords t) ((dats m 0 c).after 5 t) = _
  rw [after0_5, loss_at m c t ht]
  refine funext fun (j : S1x1.Idx) => ?_
  rw [View.read_apply]
  show k0_pay2 (F := Ideal) _ _ = loss (g m c)
  have h8192 : 512 * t.val + 512 = 8192 := by rw [ht']
  refine loss_apply _ _ _ (fun e => ?_) fun e => ?_
  · rw [me_at, me_apply (holds m c t) _ (carried m c t.val t.isLt).2 e, h8192]
  · rw [cnt_at, cnt_apply (holds m c t) e, h8192]

/-- The combine array after the last point. -/
theorem final_comb : (dats m 0 c).arrAt 2 cfg0.N = combA m c :=
  (dats m 0 c).arrAt_eq_of_cover 2 (combA m c) (flushed_comb m c) fun (i : S8192x64x128.Idx) => by
    have h0 : (i 0).val < 8192 := (i 0).isLt
    have h1 : (i 1).val < 64 := (i 1).isLt
    have h2 : (i 2).val < 128 := (i 2).isLt
    have hN : cfg0.N = 16 := N_0
    refine ⟨⟨(i 0).val / 512, by omega⟩, flush0_2 _, ?_⟩
    generalize ht : (⟨(i 0).val / 512, _⟩ : Fin cfg0.N) = t
    have htv : t.val = (i 0).val / 512 := by rw [← ht]
    have hi := index2 t
    show i ∈ ((View.whole main_v0_1).slice (win0_2.rect t)).set
    rw [View.set_slice_whole, Rect.mem_set_unit]
    intro a
    match a with
    | ⟨0, _⟩ => show win0_2.index t 0 * 512 ≤ (i 0).val ∧ (i 0).val < win0_2.index t 0 * 512 + 512; rw [hi.1]; omega
    | ⟨1, _⟩ => show win0_2.index t 1 * 64 ≤ (i 1).val ∧ (i 1).val < win0_2.index t 1 * 64 + 64; rw [hi.2.1]; omega
    | ⟨2, _⟩ => show win0_2.index t 2 * 128 ≤ (i 2).val ∧ (i 2).val < win0_2.index t 2 * 128 + 128; rw [hi.2.2]; omega

/-- The expert array after the last point. -/
theorem final_idx : (dats m 0 c).arrAt 3 cfg0.N = idxA m c :=
  (dats m 0 c).arrAt_eq_of_cover 3 (idxA m c) (flushed_idx m c) fun (i : S16x1x512.Idx) => by
    have h0 : (i 0).val < 16 := (i 0).isLt
    have h1 : (i 1).val < 1 := (i 1).isLt
    have h2 : (i 2).val < 512 := (i 2).isLt
    have hN : cfg0.N = 16 := N_0
    refine ⟨⟨(i 0).val, by omega⟩, flush0_3 _, ?_⟩
    generalize ht : (⟨(i 0).val, _⟩ : Fin cfg0.N) = t
    have htv : t.val = (i 0).val := by rw [← ht]
    have hi := index3 t
    show i ∈ ((View.whole main_call0_v0_1).slice (win0_3.rect t)).set
    rw [View.set_slice_whole, Rect.mem_set_unit]
    intro a
    match a with
    | ⟨0, _⟩ => show win0_3.index t 0 * 1 ≤ (i 0).val ∧ (i 0).val < win0_3.index t 0 * 1 + 1; rw [hi.1]; omega
    | ⟨1, _⟩ => show win0_3.index t 1 * 1 ≤ (i 1).val ∧ (i 1).val < win0_3.index t 1 * 1 + 1; rw [hi.2.1]; omega
    | ⟨2, _⟩ => show win0_3.index t 2 * 512 ≤ (i 2).val ∧ (i 2).val < win0_3.index t 2 * 512 + 512; rw [hi.2.2]; omega

/-- The place array after the last point. -/
theorem final_loc : (dats m 0 c).arrAt 4 cfg0.N = locA m c :=
  (dats m 0 c).arrAt_eq_of_cover 4 (locA m c) (flushed_loc m c) fun (i : S16x1x512.Idx) => by
    have h0 : (i 0).val < 16 := (i 0).isLt
    have h1 : (i 1).val < 1 := (i 1).isLt
    have h2 : (i 2).val < 512 := (i 2).isLt
    have hN : cfg0.N = 16 := N_0
    refine ⟨⟨(i 0).val, by omega⟩, flush0_4 _, ?_⟩
    generalize ht : (⟨(i 0).val, _⟩ : Fin cfg0.N) = t
    have htv : t.val = (i 0).val := by rw [← ht]
    have hi := index4 t
    show i ∈ ((View.whole main_call0_v0_2).slice (win0_4.rect t)).set
    rw [View.set_slice_whole, Rect.mem_set_unit]
    intro a
    match a with
    | ⟨0, _⟩ => show win0_4.index t 0 * 1 ≤ (i 0).val ∧ (i 0).val < win0_4.index t 0 * 1 + 1; rw [hi.1]; omega
    | ⟨1, _⟩ => show win0_4.index t 1 * 1 ≤ (i 1).val ∧ (i 1).val < win0_4.index t 1 * 1 + 1; rw [hi.2.1]; omega
    | ⟨2, _⟩ => show win0_4.index t 2 * 512 ≤ (i 2).val ∧ (i 2).val < win0_4.index t 2 * 512 + 512; rw [hi.2.2]; omega

/-- The loss array after the last point. -/
theorem final_loss : (dats m 0 c).arrAt 5 cfg0.N = lossA m c :=
  (dats m 0 c).arrAt_eq_of_cover 5 (lossA m c) (flushed_loss m c) fun (i : S1x1.Idx) => by
    have h0 : (i 0).val < 1 := (i 0).isLt
    have h1 : (i 1).val < 1 := (i 1).isLt
    refine ⟨t0_15, (flush0_5 t0_15).mpr rfl, ?_⟩
    have hi := index5 t0_15
    show i ∈ ((View.whole main_call0_v0_3).slice (win0_5.rect t0_15)).set
    rw [View.set_slice_whole, Rect.mem_set_unit]
    intro a
    match a with
    | ⟨0, _⟩ => show win0_5.index t0_15 0 * 1 ≤ (i 0).val ∧ (i 0).val < win0_5.index t0_15 0 * 1 + 1; rw [hi.1]; omega
    | ⟨1, _⟩ => show win0_5.index t0_15 1 * 1 ≤ (i 1).val ∧ (i 1).val < win0_5.index t0_15 1 * 1 + 1; rw [hi.2]; omega

end Moe.Arrays
-- ==== Proof.Tail.lean ====
/-
  The kernel's host operations after the region: the loss is the loss array's one entry, and the dispatch tensor is
  built from the expert and place arrays by two comparisons.
-/
module

public import proofs.«01_k».proof.Proof.Arrays
public import Idealize.ShloMosaic.Lib.StableHlo.Run

@[expose] public section

set_option maxRecDepth 16384

noncomputable section

namespace Moe.Tail

open Cert.KernelIdeal Cert.KernelIdeal.Gen Idealize.ShloMosaic Idealize.ShloMosaic.TcCoe Idealize.SL.Sem Moe.Spec Moe.Scalars
  Moe.Gates Moe.Arrays Idealize.ShloMosaic.StableHlo

/-- The expert of each token against each expert, as the host compares them. -/
def atExpert (ix : IVec S16x1x512 32) : IVec S8192x64x1 1 :=
  cmpi .eq (broadcastInDim S8192x64x1 ![0, 1, 2] bcast_S8192x1x1_S8192x64x1_0_1_2 (shapeCast S8192x1x1 ix shapeCasts_S16x1x512_S8192x1x1))
    (broadcastInDim S8192x64x1 ![0, 1, 2] bcast_S1x64x1_S8192x64x1_0_1_2 (shapeCast S1x64x1 (iotaInDim S64 32 0) shapeCasts_S64_S1x64x1))

/-- The place of each token against each place, as the host compares them. -/
def atPlace (lc : IVec S16x1x512 32) : IVec S8192x1x128 1 :=
  cmpi .eq (broadcastInDim S8192x1x128 ![0, 1, 2] bcast_S8192x1x1_S8192x1x128_0_1_2 (shapeCast S8192x1x1 lc shapeCasts_S16x1x512_S8192x1x1))
    (broadcastInDim S8192x1x128 ![0, 1, 2] bcast_S1x1x128_S8192x1x128_0_1_2 (shapeCast S1x1x128 (iotaInDim S128 32 0) shapeCasts_S128_S1x1x128))

/-- The dispatch tensor of the expert and place arrays. -/
def dispatchK (ix lc : IVec S16x1x512 32) : IVec S8192x64x128 1 :=
  andi (broadcastInDim S8192x64x128 ![0, 1, 2] bcast_S8192x64x1_S8192x64x128_0_1_2 (atExpert ix))
    (broadcastInDim S8192x64x128 ![0, 1, 2] bcast_S8192x1x128_S8192x64x128_0_1_2 (atPlace lc))

section
variable (V : Valuation τ sig (Elt Ideal))

set_option maxHeartbeats 4000000 in
/-- The operations leave the loss array's entry in the loss. -/
theorem after_loss : after (hostOps1 (F := Ideal)) V (Proc.devRef .tc main_v0_0)
    = shapeCast S_ (V (Proc.devRef .tc main_call0_v0_3) : FVec Ideal S1x1 .f32) shapeCasts_S1x1_S_ := by
  simp only [hostOps1, TRef.binary, TRef.nullary, TRef.unary, TRef.reshape, TRef.toBuf, TRef.ofBuf, cast_eq]
  after_results_simp <;> rfl

set_option maxHeartbeats 4000000 in
/-- The operations leave in the dispatch tensor what they build of the two arrays. -/
theorem after_dispatch : after (hostOps1 (F := Ideal)) V (Proc.devRef .tc main_v0_2)
    = dispatchK (V (Proc.devRef .tc main_call0_v0_1)) (V (Proc.devRef .tc main_call0_v0_2)) := by
  simp only [hostOps1, TRef.binary, TRef.nullary, TRef.unary, TRef.reshape, TRef.toBuf, TRef.ofBuf, cast_eq]
  after_results_simp <;> rfl

end

/-- The comparison with the experts, at a token. -/
theorem atExpert_apply (ix : IVec S16x1x512 32) (s : Fin 8192) (e : Fin 64) :
    atExpert ix (ix3 s e 0) = IntOp.cmpi .eq (ix (ix3 ⟨s.val / 512, by omega⟩ 0 ⟨s.val % 512, by omega⟩)) (BitVec.ofNat 32 e.val) := by
  unfold atExpert
  pointwise

/-- The comparison with the places, at a token. -/
theorem atPlace_apply (lc : IVec S16x1x512 32) (s : Fin 8192) (p : Fin 128) :
    atPlace lc (ix3 s 0 p) = IntOp.cmpi .eq (lc (ix3 ⟨s.val / 512, by omega⟩ 0 ⟨s.val % 512, by omega⟩)) (BitVec.ofNat 32 p.val) := by
  unfold atPlace
  pointwise

/-- The dispatch tensor at a token, an expert and a place is both comparisons. -/
theorem dispatchK_apply (ix lc : IVec S16x1x512 32) (s : Fin 8192) (e : Fin 64) (p : Fin 128) :
    dispatchK ix lc (ix3 s e p) = IntOp.andi (atExpert ix (ix3 s e 0)) (atPlace lc (ix3 s 0 p)) := by
  unfold dispatchK
  pointwise

variable (m : (ℓ : Loc nD τ sig) → Buf (Elt Ideal) ℓ) (ρ : Dev nD → PrngReg) (c : Dev nD)

/-- The dispatch tensor built of the kernel's two arrays. -/
theorem dispatch_value (s : Fin 8192) (e : Fin 64) (p : Fin 128) :
    dispatchK (idxA m c) (locA m c) (ix3 s e p) = disp (g m c) s.val e p := by
  have hs : 512 * (s.val / 512) + s.val % 512 = s.val := by omega
  have h1 : atExpert (idxA m c) (ix3 s e 0)
      = if (if rank (g m c) s.val < 128 then (first (g m c s.val)).val else 64) = e.val then 1#1 else 0#1 := by
    rw [atExpert_apply]
    show IntOp.cmpi .eq (BitVec.ofNat 32 (if rank (g m c) (512 * (s.val / 512) + s.val % 512) < 128
      then (first (g m c (512 * (s.val / 512) + s.val % 512))).val else 64)) _ = _
    rw [hs, cmpi_eq _ _ (by have := (first (g m c s.val)).isLt; split <;> omega) (by omega)]
  have h2 : atPlace (locA m c) (ix3 s 0 p) = if rank (g m c) s.val = p.val then 1#1 else 0#1 := by
    rw [atPlace_apply]
    show IntOp.cmpi .eq (BitVec.ofNat 32 (rank (g m c) (512 * (s.val / 512) + s.val % 512))) _ = _
    have := rank_le (g m c) s.val
    rw [hs, cmpi_eq _ _ (by omega) (by omega)]
  rw [dispatchK_apply, h1, h2]
  unfold disp
  have hp := p.isLt
  have he := e.isLt
  by_cases hr : rank (g m c) s.val = p.val
  · by_cases hf : first (g m c s.val) = e
    · rw [if_pos (by rw [hf, if_pos (by omega)]), if_pos hr, if_pos ⟨hf, hr⟩]; rfl
    · rw [if_neg (by rw [if_pos (by omega)]; exact fun h => hf (Fin.ext h)), if_pos hr, if_neg (fun h : first (g m c s.val) = e ∧ rank (g m c) s.val = p.val => hf h.1)]; rfl
  · rw [if_neg hr, if_neg (fun h : first (g m c s.val) = e ∧ rank (g m c) s.val = p.val => hr h.2)]
    exact BitVec.and_zero

/-- The dispatch tensor. -/
def dispA : Buf (Elt Ideal) ((c : Thread nD τ).loc main_v0_2) := fun i : S8192x64x128.Idx => disp (g m c) (i 0).val (i 1) (i 2)

/-- What the host operations leave in the loss. -/
theorem tail_loss : Pipeline.afterTail₀ cfgs (dats m) 0 (V0 m) [hostOps1] c main_v0_0 = fun _ => loss (g m c) := by
  have h : Pipeline.withArrays spec0 c (V0 m c) (fun w => (dats m 0 c).arrAt w cfg0.N) (Proc.devRef .tc main_call0_v0_3) = lossA m c :=
    (Pipeline.withArrays_arr spec0 launch0.win.arr_inj c (V0 m c) (fun w => (dats m 0 c).arrAt w cfg0.N) 5).trans (final_loss m c)
  refine (after_loss (Pipeline.withArrays spec0 c (V0 m c) fun w => (dats m 0 c).arrAt w cfg0.N)).trans ?_
  rw [h]
  rfl

/-- What the host operations leave in the dispatch tensor. -/
theorem tail_dispatch : Pipeline.afterTail₀ cfgs (dats m) 0 (V0 m) [hostOps1] c main_v0_2 = dispA m c := by
  have h1 : Pipeline.withArrays spec0 c (V0 m c) (fun w => (dats m 0 c).arrAt w cfg0.N) (Proc.devRef .tc main_call0_v0_1) = idxA m c :=
    (Pipeline.withArrays_arr spec0 launch0.win.arr_inj c (V0 m c) (fun w => (dats m 0 c).arrAt w cfg0.N) 3).trans (final_idx m c)
  have h2 : Pipeline.withArrays spec0 c (V0 m c) (fun w => (dats m 0 c).arrAt w cfg0.N) (Proc.devRef .tc main_call0_v0_2) = locA m c :=
    (Pipeline.withArrays_arr spec0 launch0.win.arr_inj c (V0 m c) (fun w => (dats m 0 c).arrAt w cfg0.N) 4).trans (final_loc m c)
  refine (after_dispatch (Pipeline.withArrays spec0 c (V0 m c) fun w => (dats m 0 c).arrAt w cfg0.N)).trans ?_
  rw [h1, h2]
  refine funext fun (i : S8192x64x128.Idx) => ?_
  exact (congrArg _ (ValueIdx.eq_ix3 i)).trans (dispatch_value m c (i 0) (i 1) (i 2))

/-- Every execution of the kernel program ends with its three results at the loss, the combine tensor and the dispatch
    tensor of the arguments' gates, and with the arguments unchanged. -/
theorem run : θ_run defs (onTc (τ := τ) (main (F := Ideal))) ⟨m, fun _ => 0, ρ⟩ fun r => ∀ c : Dev nD,
      r.2.mem ((c.tc : Thread nD τ).loc main_v0_0) = (fun _ => loss (g m c))
      ∧ r.2.mem ((c.tc : Thread nD τ).loc main_v0_1) = combA m c
      ∧ r.2.mem ((c.tc : Thread nD τ).loc main_v0_2) = dispA m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v0_0 (by decide)).trans (tail_loss m c),
      ((h c).1 2).trans (final_comb m c),
      ((h c).2 main_v0_2 (by decide)).trans (tail_dispatch m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Moe.Tail
-- ==== Proof.lean ====
/-
  The proof of `Cert.Claim`. Both programs' runs are read as the same three functions of the two arguments: the
  balancing loss, the combine tensor and the dispatch tensor of the gates (`Moe.Spec`, `Moe.Gates`). `Moe.Tail.run` is
  the kernel's run, `Moe.RefRun.run` with `Moe.RefValue` the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefValue
public import proofs.«01_k».proof.Proof.Tail
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Moe.Spec Moe.Gates

/-- The reference ends, with its arguments unchanged and every counter at zero. -/
theorem reference_frame : quiescent_ReferenceIdeal (hReferenceIdeal := Cert.ReferenceIdeal.Gen.facts) := fun m g _ =>
  (θ_run Cert.ReferenceIdeal.defs _ _).mono
    (fun r h => ⟨fun c => ⟨(h c).2.2.2.1, (h c).2.2.2.2⟩, sem_eq_zero_of_no_sems (by decide) r.2⟩)
    (Moe.RefRun.run (F := Ideal) m g)

section Reference
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (hagree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
include hagree

/-- From the same arguments, the reference's gates and mask are those of the kernel's rows. -/
theorem reads : Moe.RefValue.Reads (Moe.RefRun.gatesAt (F := Ideal) m' c) (Moe.RefRun.maskAt (F := Ideal) m' c) (Moe.Arrays.g m c) := by
  have h := Moe.RefValue.reads m' c
  rw [hagree.1, hagree.2] at h
  exact h

/-- The reference's loss is the kernel's. -/
theorem loss_eq : Moe.RefRun.lossT (Moe.RefRun.gatesAt (F := Ideal) m' c) (Moe.RefRun.maskAt (F := Ideal) m' c)
    = fun _ => loss (Moe.Arrays.g m c) :=
  funext fun i => Moe.RefValue.lossT_apply (reads m m' c hagree) i

/-- The reference's combine tensor is the kernel's. -/
theorem combine_eq : Moe.RefRun.combineT (Moe.RefRun.gatesAt (F := Ideal) m' c) (Moe.RefRun.maskAt (F := Ideal) m' c)
    = Moe.Arrays.combA m c :=
  funext fun (i : (⟨3, ![8192, 64, 128]⟩ : Shape).Idx) =>
    (congrArg _ (ValueIdx.eq_ix3 i)).trans (Moe.RefValue.combineT_apply (reads m m' c hagree) (i 0) (i 1) (i 2))

/-- The reference's dispatch tensor is the kernel's. -/
theorem dispatch_eq :
    Moe.RefRun.dispatchT (Moe.RefRun.combineT (Moe.RefRun.gatesAt (F := Ideal) m' c) (Moe.RefRun.maskAt (F := Ideal) m' c))
      = Moe.Tail.dispA m c :=
  funext fun (i : (⟨3, ![8192, 64, 128]⟩ : Shape).Idx) =>
    (congrArg _ (ValueIdx.eq_ix3 i)).trans
      (Moe.RefValue.dispatchT_apply (reads m m' c hagree) (fun n => gatesOf_top_ne_zero _ _ n) (i 0) (i 1) (i 2))

end Reference

/-- From memories that agree on the arguments, the kernel and the reference end with equal results. -/
theorem values_agree : algebraic_KernelIdeal_ReferenceIdeal (hKernelIdeal := Cert.KernelIdeal.Gen.facts)
    (hReferenceIdeal := Cert.ReferenceIdeal.Gen.facts) := fun m g m' g' _ hagree =>
  ⟨fun c => fun _ => loss (Moe.Arrays.g m c), fun c => Moe.Arrays.combA m c, fun c => Moe.Tail.dispA m c, Moe.Tail.run m g,
    (θ_run Cert.ReferenceIdeal.defs _ _).mono
      (fun _ h c => ⟨(h c).1.trans (loss_eq m m' c (hagree c)), (h c).2.1.trans (combine_eq m m' c (hagree c)),
        (h c).2.2.1.trans (dispatch_eq m m' c (hagree c)), (h c).2.2.2.1, (h c).2.2.2.2⟩)
      (Moe.RefRun.run (F := Ideal) m' g')⟩

/-- Every claim holds. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, values_agree⟩

end Cert.Proof

end
